-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x3A2AAAAB#32 ((1 / 1536 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1536 : Shape := ⟨3, ![4, 4096, 1536]⟩
abbrev S4x1536 : Shape := ⟨2, ![4, 1536]⟩
abbrev S1536x6144 : Shape := ⟨2, ![1536, 6144]⟩
abbrev S6144 : Shape := ⟨1, ![6144]⟩
abbrev S16384x1536 : Shape := ⟨2, ![16384, 1536]⟩
abbrev S4x1x1536 : Shape := ⟨3, ![4, 1, 1536]⟩
abbrev S1x6144 : Shape := ⟨2, ![1, 6144]⟩
abbrev S16384x6144 : Shape := ⟨2, ![16384, 6144]⟩
abbrev S16384x1 : Shape := ⟨2, ![16384, 1]⟩
abbrev S512x1536 : Shape := ⟨2, ![512, 1536]⟩
abbrev S1x1x1536 : Shape := ⟨3, ![1, 1, 1536]⟩
abbrev S512x6144 : Shape := ⟨2, ![512, 6144]⟩
abbrev S512x1 : Shape := ⟨2, ![512, 1]⟩
abbrev S2x512x1536 : Shape := ⟨3, ![2, 512, 1536]⟩
abbrev S2x512x1 : Shape := ⟨3, ![2, 512, 1]⟩
abbrev S1x1536 : Shape := ⟨2, ![1, 1536]⟩
abbrev S32x1536 : Shape := ⟨2, ![32, 1536]⟩
abbrev S32 : Shape := ⟨1, ![32]⟩
abbrev S32x1 : Shape := ⟨2, ![32, 1]⟩
abbrev S32x256 : Shape := ⟨2, ![32, 256]⟩
abbrev S1x512x1536 : Shape := ⟨3, ![1, 512, 1536]⟩
abbrev S1x32x1536 : Shape := ⟨3, ![1, 32, 1536]⟩
abbrev S1x512x1 : Shape := ⟨3, ![1, 512, 1]⟩
abbrev S1536x512 : Shape := ⟨2, ![1536, 512]⟩
abbrev S512x512 : Shape := ⟨2, ![512, 512]⟩
abbrev S1x512 : Shape := ⟨2, ![1, 512]⟩

abbrev nBuf : Space → Nat
  | .hbm => 14
  | .vmem => 21
  | .smem => 0
  | _ => 0

abbrev bufTy : (tb : Table) → Fin (tcTables nBuf tb) → BufTy
  | .hbm, ⟨0, _⟩ => ⟨S4x4096x1536, .bf16⟩
  | .hbm, ⟨1, _⟩ => ⟨S4x1536, .f32⟩
  | .hbm, ⟨2, _⟩ => ⟨S4x1536, .f32⟩
  | .hbm, ⟨3, _⟩ => ⟨S1536x6144, .fp8e4m3⟩
  | .hbm, ⟨4, _⟩ => ⟨S6144, .f32⟩
  | .hbm, ⟨5, _⟩ => ⟨S6144, .f32⟩
  | .hbm, ⟨6, _⟩ => ⟨S16384x1536, .bf16⟩
  | .hbm, ⟨7, _⟩ => ⟨S4x1x1536, .f32⟩
  | .hbm, ⟨8, _⟩ => ⟨S4x1x1536, .f32⟩
  | .hbm, ⟨9, _⟩ => ⟨S1x6144, .f32⟩
  | .hbm, ⟨10, _⟩ => ⟨S1x6144, .f32⟩
  | .hbm, ⟨11, _⟩ => ⟨S16384x6144, .bf16⟩
  | .hbm, ⟨12, _⟩ => ⟨S16384x1536, .fp8e4m3⟩
  | .hbm, ⟨13, _⟩ => ⟨S16384x1, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S1x1x1536, .f32⟩
  | .local _ .vmem, ⟨4, _⟩ => ⟨S1x1x1536, .f32⟩
  | .local _ .vmem, ⟨5, _⟩ => ⟨S1x1x1536, .f32⟩
  | .local _ .vmem, ⟨6, _⟩ => ⟨S1x1x1536, .f32⟩
  | .local _ .vmem, ⟨7, _⟩ => ⟨S1x1x1536, .f32⟩
  | .local _ .vmem, ⟨8, _⟩ => ⟨S1x1x1536, .f32⟩
  | .local _ .vmem, ⟨9, _⟩ => ⟨S1536x6144, .fp8e4m3⟩
  | .local _ .vmem, ⟨10, _⟩ => ⟨S1x6144, .f32⟩
  | .local _ .vmem, ⟨11, _⟩ => ⟨S1x6144, .f32⟩
  | .local _ .vmem, ⟨12, _⟩ => ⟨S512x6144, .bf16⟩
  | .local _ .vmem, ⟨13, _⟩ => ⟨S512x6144, .bf16⟩
  | .local _ .vmem, ⟨14, _⟩ => ⟨S512x1536, .fp8e4m3⟩
  | .local _ .vmem, ⟨15, _⟩ => ⟨S512x1536, .fp8e4m3⟩
  | .local _ .vmem, ⟨16, _⟩ => ⟨S512x1, .f32⟩
  | .local _ .vmem, ⟨17, _⟩ => ⟨S512x1, .f32⟩
  | .local _ .vmem, ⟨18, _⟩ => ⟨S2x512x1536, .fp8e4m3⟩
  | .local _ .vmem, ⟨19, _⟩ => ⟨S2x512x1, .f32⟩
  | .local _ .vmem, ⟨20, _⟩ => ⟨S1x1536, .f32⟩
  | _, _ => ⟨S4x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_31 : BitVec 32 := 0#32
  let c0_i32_32 : BitVec 32 := 0#32
  ![v1.toNat, 0, 0]
def k0_off2 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_31 : BitVec 32 := 0#32
  let c0_i32_32 : BitVec 32 := 0#32
  ![v1.toNat, 0, 0]
def k0_off3 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_35 : BitVec 32 := 0#32
  let c0_i32_36 : BitVec 32 := 0#32
  ![v1.toNat, 0, 0]
def k0_off4 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_68 : BitVec 32 := 0#32
  ![v1.toNat, 32, 0]
def k0_off5 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_104 : BitVec 32 := 0#32
  ![v1.toNat, 64, 0]
def k0_off6 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_140 : BitVec 32 := 0#32
  ![v1.toNat, 96, 0]
def k0_off7 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_176 : BitVec 32 := 0#32
  ![v1.toNat, 128, 0]
def k0_off8 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_212 : BitVec 32 := 0#32
  ![v1.toNat, 160, 0]
def k0_off9 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_248 : BitVec 32 := 0#32
  ![v1.toNat, 192, 0]
def k0_off10 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_284 : BitVec 32 := 0#32
  ![v1.toNat, 224, 0]
def k0_off11 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_320 : BitVec 32 := 0#32
  ![v1.toNat, 256, 0]
def k0_off12 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_356 : BitVec 32 := 0#32
  ![v1.toNat, 288, 0]
def k0_off13 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_392 : BitVec 32 := 0#32
  ![v1.toNat, 320, 0]
def k0_off14 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_428 : BitVec 32 := 0#32
  ![v1.toNat, 352, 0]
def k0_off15 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_464 : BitVec 32 := 0#32
  ![v1.toNat, 384, 0]
def k0_off16 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_500 : BitVec 32 := 0#32
  ![v1.toNat, 416, 0]
def k0_off17 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_536 : BitVec 32 := 0#32
  ![v1.toNat, 448, 0]
def k0_off18 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c0_i32_572 : BitVec 32 := 0#32
  ![v1.toNat, 480, 0]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v1276 : Index := Scalar.indexCast v0
  let c0_579 : Index := 0#32
  let c0_580 : Index := 0#32
  ![v1276.toNat, 0, 0]
def k0_off20 (i : grid0.Coords) : Fin 3 → Nat :=
  let arg0 : BitVec 32 := BitVec.ofNat 32 (i 0).val
  let c2_i32 : BitVec 32 := 2#32
  let v0 : BitVec 32 := Scalar.remsi arg0 c2_i32
  let v1279 : Index := Scalar.indexCast v0
  let c0_581 : Index := 0#32
  let c0_582 : Index := 0#32
  ![v1279.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x6144 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x6144 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d" => some ((1 / 1536 : ℝ) : EReal)
  | _ => none
-- ==== ReferenceIdeal.lean ====
abbrev S4x4096x1536 : Shape := ⟨3, ![4, 4096, 1536]⟩
abbrev S4x1536 : Shape := ⟨2, ![4, 1536]⟩
abbrev S1536x6144 : Shape := ⟨2, ![1536, 6144]⟩
abbrev S6144 : Shape := ⟨1, ![6144]⟩
abbrev S1x6144 : Shape := ⟨2, ![1, 6144]⟩
abbrev S16384x6144 : Shape := ⟨2, ![16384, 6144]⟩
abbrev S16384x1536 : Shape := ⟨2, ![16384, 1536]⟩
abbrev S16384x1 : Shape := ⟨2, ![16384, 1]⟩
abbrev S4x4096 : Shape := ⟨2, ![4, 4096]⟩
abbrev S4x4096x1 : Shape := ⟨3, ![4, 4096, 1]⟩
abbrev S4x1x1536 : Shape := ⟨3, ![4, 1, 1536]⟩
abbrev S16384 : Shape := ⟨1, ![16384]⟩

abbrev nBuf : Space → Nat
  | .hbm => 11
  | .vmem => 9
  | .smem => 0
  | _ => 0

abbrev bufTy : (tb : Table) → Fin (tcTables nBuf tb) → BufTy
  | .hbm, ⟨0, _⟩ => ⟨S4x4096x1536, .bf16⟩
  | .hbm, ⟨1, _⟩ => ⟨S4x1536, .f32⟩
  | .hbm, ⟨2, _⟩ => ⟨S4x1536, .f32⟩
  | .hbm, ⟨3, _⟩ => ⟨S1536x6144, .fp8e4m3⟩
  | .hbm, ⟨4, _⟩ => ⟨S6144, .f32⟩
  | .hbm, ⟨5, _⟩ => ⟨S6144, .f32⟩
  | .hbm, ⟨6, _⟩ => ⟨S1x6144, .f32⟩
  | .hbm, ⟨7, _⟩ => ⟨S1x6144, .f32⟩
  | .hbm, ⟨8, _⟩ => ⟨S16384x6144, .bf16⟩
  | .hbm, ⟨9, _⟩ => ⟨S16384x1536, .fp8e4m3⟩
  | .hbm, ⟨10, _⟩ => ⟨S16384x1, .f32⟩
  | .local _ .vmem, ⟨0, _⟩ => ⟨S4x4096x1536, .bf16⟩
  | .local _ .vmem, ⟨1, _⟩ => ⟨S4x1536, .f32⟩
  | .local _ .vmem, ⟨2, _⟩ => ⟨S4x1536, .f32⟩
  | .local _ .vmem, ⟨3, _⟩ => ⟨S1536x6144, .fp8e4m3⟩
  | .local _ .vmem, ⟨4, _⟩ => ⟨S1x6144, .f32⟩
  | .local _ .vmem, ⟨5, _⟩ => ⟨S1x6144, .f32⟩
  | .local _ .vmem, ⟨6, _⟩ => ⟨S16384x6144, .bf16⟩
  | .local _ .vmem, ⟨7, _⟩ => ⟨S16384x1536, .fp8e4m3⟩
  | .local _ .vmem, ⟨8, _⟩ => ⟨S16384x1, .f32⟩
  | _, _ => ⟨S4x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "inv_ln2" => some (((Real.log 2)⁻¹ : ℝ) : EReal)
  | _ => none

abbrev grid0 : Pipeline.Grid := .none

abbrev stage0_0 : Fin 1 → Memref sig .tc .vmem S4x4096x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Chunk.lean ====
/- What one block of 512 rows becomes. The kernel quantises a block in sixteen chunks of 32 rows and later
   multiplies the stored codes with the weight in twelve tiles of 512 columns; the functions here name those
   results once, for every chunk and every tile. -/
module

public import proofs.«01_k».proof.Proof.Gen.Kernel.Skeleton
public import Idealize.ShloMosaic.Lib.Pipeline.FrameBody
public import Idealize.ShloMosaic.Lib.ValueIdxCore
public import Idealize.ShloMosaic.Lib.WritesUnit
public import Idealize.ShloMosaic.Lib.VecWindow

@[expose] public section

noncomputable section
namespace Cert.Kernel.Body

open Cert.Kernel Cert.Kernel.Gen
open Idealize.ShloMosaic Idealize.ShloMosaic.ValueIdx

variable {F : FTy → Type} [FloatOps F]

/-- A box read at equal offsets reads the same. -/
theorem ld_congr {S : Shape} {e : EltTy} {Val : EltTy → Type} {o o' sz : Fin S.rank → ℕ} (h : o = o') (inb : ∀ a, o a + sz a ≤ S.size a) (inb' : ∀ a, o' a + sz a ≤ S.size a)
    (d : S.Idx → Val e) : View.ld d (Rect.unit (s := S) o sz inb) = View.ld d (Rect.unit (s := S) o' sz inb') := by
  subst h; rfl

/-- The row `1 + s` the normalised rows are multiplied with. -/
def gain (s : Vec F S1x1x1536 .f32) : Vec F S1x1536 .f32 := k0_pay119 s

/-- The codes of one chunk of 32 rows `x`, from the gain row `g` and the shift row `t`. -/
def chunkCodes (x : Vec F S32x1536 .bf16) (g : Vec F S1x1536 .f32) (t : Vec F S1x1x1536 .f32) : Vec F S1x32x1536 .fp8e4m3 :=
  k0_pay233 (k0_pay228 x g t) (k0_pay229 x g t) k0_pay230

/-- The scales of one chunk of 32 rows `x`. -/
def chunkScale (x : Vec F S32x1536 .bf16) (g : Vec F S1x1536 .f32) (t : Vec F S1x1x1536 .f32) : Vec F S32x1 .f32 :=
  k0_pay234 (k0_pay232 (k0_pay229 x g t) k0_pay230)

/-- A chunk of 32 rows lies in the block. -/
theorem inb_rows : ∀ (k : Fin 16) (a : Fin 2), (![32 * k.val, 0] : Fin 2 → ℕ) a + S32x1536.size a ≤ S512x1536.size a := by decide
/-- Rows `32 k … 32 k + 31` of a block. -/
def rows (x : Vec F S512x1536 .bf16) (k : Fin 16) : Vec F S32x1536 .bf16 :=
  View.ld x (Rect.unit (s := S512x1536) ![32 * k.val, 0] S32x1536.size (inb_rows k))

/-- The chunk a row of a block lies in. -/
def chunkOf (r : Fin 512) : Fin 16 := ⟨r.val / 32, by omega⟩
/-- A row's place inside its chunk. -/
def inChunk (r : Fin 512) : Fin 32 := ⟨r.val % 32, by omega⟩

/-- The codes of a whole block of 512 rows from the gain row `g`, chunk by chunk. -/
def codesOf (x : Vec F S512x1536 .bf16) (g : Vec F S1x1536 .f32) (t : Vec F S1x1x1536 .f32) : Vec F S1x512x1536 .fp8e4m3 :=
  fun y => chunkCodes (rows x (chunkOf (y 1))) g t (ix3 (0 : Fin 1) (inChunk (y 1)) (y 2))
/-- The scales of a whole block of 512 rows from the gain row `g`, chunk by chunk. -/
def scaleOf (x : Vec F S512x1536 .bf16) (g : Vec F S1x1536 .f32) (t : Vec F S1x1x1536 .f32) : Vec F S1x512x1 .f32 :=
  fun y => chunkScale (rows x (chunkOf (y 1))) g t (ix2 (inChunk (y 1)) (0 : Fin 1))

/-- The codes of a whole block of 512 rows. -/
def blkCodes (x : Vec F S512x1536 .bf16) (s t : Vec F S1x1x1536 .f32) : Vec F S1x512x1536 .fp8e4m3 := codesOf x (gain s) t
/-- The scales of a whole block of 512 rows. -/
def blkScale (x : Vec F S512x1536 .bf16) (s t : Vec F S1x1x1536 .f32) : Vec F S1x512x1 .f32 := scaleOf x (gain s) t

/-- A tile of 512 columns lies in the weight. -/
theorem inb_colsW : ∀ (n : Fin 12) (a : Fin 2), (![0, 512 * n.val] : Fin 2 → ℕ) a + S1536x512.size a ≤ S1536x6144.size a := by decide
/-- A tile of 512 columns lies in a row of column values. -/
theorem inb_colsB : ∀ (n : Fin 12) (a : Fin 2), (![0, 512 * n.val] : Fin 2 → ℕ) a + S1x512.size a ≤ S1x6144.size a := by decide
/-- Columns `512 n … 512 n + 511` of the weight. -/
def colsW (w : Vec F S1536x6144 .fp8e4m3) (n : Fin 12) : Vec F S1536x512 .fp8e4m3 :=
  View.ld w (Rect.unit (s := S1536x6144) ![0, 512 * n.val] S1536x512.size (inb_colsW n))
/-- Columns `512 n … 512 n + 511` of a row over the outputs. -/
def colsB (b : Vec F S1x6144 .f32) (n : Fin 12) : Vec F S1x512 .f32 :=
  View.ld b (Rect.unit (s := S1x6144) ![0, 512 * n.val] S1x512.size (inb_colsB n))

/-- One tile of 512 columns of the projected block. -/
def tileY (q : Vec F S1x512x1536 .fp8e4m3) (sc : Vec F S1x512x1 .f32) (w : Vec F S1536x6144 .fp8e4m3) (ws b : Vec F S1x6144 .f32) (n : Fin 12) :
    Vec F S512x512 .bf16 :=
  k0_pay237 q sc (colsW w n) (colsB ws n) (colsB b n)

/-- The tile a column lies in. -/
def tileOf (j : Fin 6144) : Fin 12 := ⟨j.val / 512, by omega⟩
/-- A column's place inside its tile. -/
def inTile (j : Fin 6144) : Fin 512 := ⟨j.val % 512, by omega⟩

/-- The projected block, tile by tile. -/
def outY (q : Vec F S1x512x1536 .fp8e4m3) (sc : Vec F S1x512x1 .f32) (w : Vec F S1536x6144 .fp8e4m3) (ws b : Vec F S1x6144 .f32) :
    Vec F S512x6144 .bf16 :=
  fun y => tileY q sc w ws b (tileOf (y 1)) (ix2 (y 0) (inTile (y 1)))

/-- The codes of a block as they leave the kernel. -/
def outCodes (q : Vec F S1x512x1536 .fp8e4m3) : Vec F S512x1536 .fp8e4m3 := k0_pay235 q
/-- The scales of a block as they leave the kernel. -/
def outScale (sc : Vec F S1x512x1 .f32) : Vec F S512x1 .f32 := k0_pay236 sc

/-- A slot lies in the code buffer. -/
theorem inb_slotQ : ∀ (s : Fin 2) (a : Fin 3), (![s.val, 0, 0] : Fin 3 → ℕ) a + S1x512x1536.size a ≤ S2x512x1536.size a := by decide
/-- A slot lies in the scale buffer. -/
theorem inb_slotS : ∀ (s : Fin 2) (a : Fin 3), (![s.val, 0, 0] : Fin 3 → ℕ) a + S1x512x1.size a ≤ S2x512x1.size a := by decide
/-- One of the two slots of the stored codes. -/
def slotQ (s : Fin 2) (d : Vec F S2x512x1536 .fp8e4m3) : Vec F S1x512x1536 .fp8e4m3 :=
  View.ld d (Rect.unit (s := S2x512x1536) ![s.val, 0, 0] S1x512x1536.size (inb_slotQ s))
/-- One of the two slots of the stored scales. -/
def slotS (s : Fin 2) (d : Vec F S2x512x1 .f32) : Vec F S1x512x1 .f32 :=
  View.ld d (Rect.unit (s := S2x512x1) ![s.val, 0, 0] S1x512x1.size (inb_slotS s))

/-- A write of the gain row into its one-row buffer. -/
def gainPiece (s : Vec F S1x1x1536 .f32) : View.Piece (Elt F) S1x1536 .f32 :=
  ⟨Rect.unit (s := S1x1536) ![0, 0] ![1, 1536] inb_S1x1536_S1x1536_0_0, gain s⟩
/-- The gain row as it is loaded back after that write. -/
def storedGain (s : Vec F S1x1x1536 .f32) (L : List (View.Piece (Elt F) S1x1536 .f32)) : Vec F S1x1536 .f32 :=
  (Memref.whole cc0_scratch2 : Memref sig .tc .vmem S1x1536 .f32).view.readCov (gainPiece s :: L)
    (Rect.unit (s := S1x1536) ![0, 0] ![1, 1536] inb_S1x1536_S1x1536_0_0).toLoadRect
/-- The gain row read back is the gain row stored, whatever was stored before. -/
theorem storedGain_eq (s : Vec F S1x1x1536 .f32) (L : List (View.Piece (Elt F) S1x1536 .f32)) : storedGain s L = gain s :=
  View.readCov_full _ _ _ _ _

/-- A row over the features as the body loads it. -/
abbrev rowLd {sp : Space} (v : View sig .tc sp S1x1x1536 .f32) (f : v.ty.Contents (Elt F)) : Vec F S1x1x1536 .f32 :=
  View.readAt (Elt F) v (Rect.unit (s := S1x1x1536) ![0, 0, 0] ![1, 1, 1536] inb_S1x1x1536_S1x1x1536_0_0_0).toLoadRect f
/-- A row loaded whole is what its view reads. -/
theorem rowLd_eq {sp : Space} (v : View sig .tc sp S1x1x1536 .f32) (f : v.ty.Contents (Elt F)) : rowLd v f = v.read (Elt F) f :=
  View.readAt_full _ _ _

/-! ## Reading a list of writes, piece by piece -/

section
variable {Val : EltTy → Type} {sig' : RefSig} {κ' : Kind} {sp' : Space} {e : EltTy}

/-- After the writes `L`, slot `p` reads `G` on its first `32 n` rows. -/
def GoodQ (v : View sig' κ' sp' S2x512x1536 e) (f : v.ty.Contents Val) (L : List (View.Piece Val S2x512x1536 e)) (p : ℕ)
    (G : S1x512x1536.Idx → Val e) (n : ℕ) : Prop :=
  ∀ y : S2x512x1536.Idx, (y 0).val = p → (y 1).val < 32 * n → v.read Val (v.writes Val f L) y = G (ix3 (0 : Fin 1) (y 1) (y 2))

/-- Of no rows nothing is asked. -/
theorem GoodQ.zero (v : View sig' κ' sp' S2x512x1536 e) (f : v.ty.Contents Val) (L : List (View.Piece Val S2x512x1536 e)) (p : ℕ)
    (G : S1x512x1536.Idx → Val e) : GoodQ v f L p G 0 := fun y _ h => absurd h (by omega)

/-- A write of rows `32 n … 32 n + 31` of slot `p` extends what is read by one chunk. -/
theorem GoodQ.cons {v : View sig' κ' sp' S2x512x1536 e} {f : v.ty.Contents Val} {L : List (View.Piece Val S2x512x1536 e)} {p n : ℕ}
    {G : S1x512x1536.Idx → Val e} {off : Fin 3 → ℕ} {inb : ∀ a, off a + S1x32x1536.size a ≤ S2x512x1536.size a}
    {w : S1x32x1536.Idx → Val e} (hoff : off = ![p, 32 * n, 0])
    (hw : ∀ (r : Fin 512) (z : Fin 32) (c : Fin 1536), r.val = 32 * n + z.val → w (ix3 (0 : Fin 1) z c) = G (ix3 (0 : Fin 1) r c))
    (hL : GoodQ v f L p G n) :
    GoodQ v f ((⟨Rect.unit (s := S2x512x1536) off S1x32x1536.size inb, w⟩ : View.Piece Val S2x512x1536 e) :: L) p G (n + 1) := by
  intro y hp hn
  by_cases h : (y 1).val < 32 * n
  · rw [View.read_writes_cons_unit_of_not_mem v f inb w L y hoff (1 : Fin 3) (.inl (by simpa using h))]
    exact hL y hp h
  · have h1 : (y 1).val - 32 * n < 32 := by omega
    rw [View.read_writes_cons_unit_of_mem v f inb w L y (ix3 (0 : Fin 1) (⟨_, h1⟩ : Fin 32) (y 2)) hoff ?_]
    · exact hw _ _ _ (show (y 1).val = 32 * n + ((y 1).val - 32 * n) by omega)
    · intro a
      match a with
      | ⟨0, _⟩ => simpa using hp
      | ⟨1, _⟩ => show (y 1).val = 32 * n + ((y 1).val - 32 * n); omega
      | ⟨2, _⟩ => show (y 2).val = 0 + (y 2).val; omega

/-- A write to the other slot changes nothing that is read of slot `p`. -/
theorem GoodQ.skip {v : View sig' κ' sp' S2x512x1536 e} {f : v.ty.Contents Val} {L : List (View.Piece Val S2x512x1536 e)} {p p' m n : ℕ}
    {G : S1x512x1536.Idx → Val e} {off : Fin 3 → ℕ} {inb : ∀ a, off a + S1x32x1536.size a ≤ S2x512x1536.size a}
    {w : S1x32x1536.Idx → Val e} (hoff : off = ![p', m, 0]) (hne : p' ≠ p) (hL : GoodQ v f L p G n) :
    GoodQ v f ((⟨Rect.unit (s := S2x512x1536) off S1x32x1536.size inb, w⟩ : View.Piece Val S2x512x1536 e) :: L) p G n := by
  intro y hp hn
  rw [View.read_writes_cons_unit_of_not_mem v f inb w L y hoff (0 : Fin 3) ?_]
  · exact hL y hp hn
  · show (y 0).val < p' ∨ p' + 1 ≤ (y 0).val
    omega

/-- After the writes `L`, slot `p` of the scales reads `G` on its first `32 n` rows. -/
def GoodS (v : View sig' κ' sp' S2x512x1 e) (f : v.ty.Contents Val) (L : List (View.Piece Val S2x512x1 e)) (p : ℕ)
    (G : S1x512x1.Idx → Val e) (n : ℕ) : Prop :=
  ∀ y : S2x512x1.Idx, (y 0).val = p → (y 1).val < 32 * n → v.read Val (v.writes Val f L) y = G (ix3 (0 : Fin 1) (y 1) (0 : Fin 1))

/-- Of no rows nothing is asked. -/
theorem GoodS.zero (v : View sig' κ' sp' S2x512x1 e) (f : v.ty.Contents Val) (L : List (View.Piece Val S2x512x1 e)) (p : ℕ)
    (G : S1x512x1.Idx → Val e) : GoodS v f L p G 0 := fun y _ h => absurd h (by omega)

/-- A write of rows `32 n … 32 n + 31` through slot `p`'s own view extends what is read by one chunk. -/
theorem GoodS.cons {v : View sig' κ' sp' S2x512x1 e} {f : v.ty.Contents Val} {L : List (View.Piece Val S2x512x1 e)} {p n : ℕ}
    {G : S1x512x1.Idx → Val e} {inb0 : ∀ a, (![p, 0, 0] : Fin 3 → ℕ) a + (![1, 512, 1] : Fin 3 → ℕ) a ≤ S2x512x1.size a}
    {off : Fin 2 → ℕ} {inb : ∀ a, off a + (![32, 1] : Fin 2 → ℕ) a ≤ S512x1.size a} {h0 hs hl}
    {hR : ((Rect.unit (s := S512x1) off ![32, 1] inb).consLift ![1, 512, 1] h0 hs).shape.numel = (Rect.unit (s := S512x1) off ![32, 1] inb).shape.numel}
    {w : (Rect.unit (s := S512x1) off ![32, 1] inb).shape.Idx → Val e} (hoff : off = ![32 * n, 0])
    (hw : ∀ (r : Fin 512) (z : Fin 32), r.val = 32 * n + z.val → w (ix2 z (0 : Fin 1)) = G (ix3 (0 : Fin 1) r (0 : Fin 1)))
    (hL : GoodS v f L p G n) :
    GoodS v f ((⟨(Rect.unit (s := S2x512x1) ![p, 0, 0] ![1, 512, 1] inb0).within ((Rect.unit (s := S512x1) off ![32, 1] inb).consLift ![1, 512, 1] h0 hs) hl,
      Rect.payAlong hR w⟩ : View.Piece Val S2x512x1 e) :: L) p G (n + 1) := by
  subst hoff
  intro y hp hn
  by_cases h : (y 1).val < 32 * n
  · rw [View.read_writes_cons_miss_of_axis v f _ L y (1 : Fin 3) (32 * n) 32 (Nat.zero_add _) rfl rfl (.inl h)]
    exact hL y hp h
  · have h1 : (y 1).val - 32 * n < 32 := by omega
    have h2 : (y 2).val = 0 := by have := (y 2).isLt; change (y 2).val < 1 at this; omega
    refine (View.read_writes_cons_hit_of_coords v f _ _ L (ix3 (0 : Fin 1) (⟨_, h1⟩ : Fin 32) (0 : Fin 1)) y ?_).trans ?_
    · intro a
      match a with
      | ⟨0, _⟩ => exact hp
      | ⟨1, _⟩ => show (y 1).val = (0 + 32 * n) + 1 * ((y 1).val - 32 * n); omega
      | ⟨2, _⟩ => exact h2
    · refine (Rect.payAlong_consLift _ _ _ _ w hR _ (ix2 (⟨_, h1⟩ : Fin 32) (0 : Fin 1)) ?_).trans ?_
      · intro i
        match i with
        | ⟨0, _⟩ => rfl
        | ⟨1, _⟩ => rfl
      · exact hw _ _ (show (y 1).val = 32 * n + ((y 1).val - 32 * n) by omega)

/-- A write to the other slot changes nothing that is read of slot `p`. -/
theorem GoodS.skip {v : View sig' κ' sp' S2x512x1 e} {f : v.ty.Contents Val} {L : List (View.Piece Val S2x512x1 e)} {p p' n : ℕ}
    {G : S1x512x1.Idx → Val e} {inb0 : ∀ a, (![p', 0, 0] : Fin 3 → ℕ) a + (![1, 512, 1] : Fin 3 → ℕ) a ≤ S2x512x1.size a}
    {off : Fin 2 → ℕ} {inb : ∀ a, off a + (![32, 1] : Fin 2 → ℕ) a ≤ S512x1.size a} {h0 hs hl} {w}
    (hne : p' ≠ p) (hL : GoodS v f L p G n) :
    GoodS v f ((⟨(Rect.unit (s := S2x512x1) ![p', 0, 0] ![1, 512, 1] inb0).within ((Rect.unit (s := S512x1) off ![32, 1] inb).consLift ![1, 512, 1] h0 hs) hl,
      w⟩ : View.Piece Val S2x512x1 e) :: L) p G n := by
  intro y hp hn
  rw [View.read_writes_cons_miss_of_axis v f _ L y (0 : Fin 3) p' 1 (Nat.add_zero _) rfl rfl (by omega)]
  exact hL y hp hn

/-- After the writes `L`, the output block reads `G` on its first `512 n` columns. -/
def GoodY (v : View sig' κ' sp' S512x6144 e) (f : v.ty.Contents Val) (L : List (View.Piece Val S512x6144 e))
    (G : S512x6144.Idx → Val e) (n : ℕ) : Prop :=
  ∀ y : S512x6144.Idx, (y 1).val < 512 * n → v.read Val (v.writes Val f L) y = G y

/-- Of no columns nothing is asked. -/
theorem GoodY.zero (v : View sig' κ' sp' S512x6144 e) (f : v.ty.Contents Val) (L : List (View.Piece Val S512x6144 e))
    (G : S512x6144.Idx → Val e) : GoodY v f L G 0 := fun y h => absurd h (by omega)

/-- A write of columns `512 n … 512 n + 511` extends what is read by one tile. -/
theorem GoodY.cons {v : View sig' κ' sp' S512x6144 e} {f : v.ty.Contents Val} {L : List (View.Piece Val S512x6144 e)} {n : ℕ}
    {G : S512x6144.Idx → Val e} {off : Fin 2 → ℕ} {inb : ∀ a, off a + S512x512.size a ≤ S512x6144.size a}
    {w : S512x512.Idx → Val e} (hoff : off = ![0, 512 * n])
    (hw : ∀ (r : Fin 512) (c : Fin 6144) (z : Fin 512), c.val = 512 * n + z.val → w (ix2 r z) = G (ix2 r c))
    (hL : GoodY v f L G n) :
    GoodY v f ((⟨Rect.unit (s := S512x6144) off S512x512.size inb, w⟩ : View.Piece Val S512x6144 e) :: L) G (n + 1) := by
  intro y hn
  by_cases h : (y 1).val < 512 * n
  · rw [View.read_writes_cons_unit_of_not_mem v f inb w L y hoff (1 : Fin 2) (.inl (by simpa using h))]
    exact hL y h
  · have h1 : (y 1).val - 512 * n < 512 := by omega
    rw [View.read_writes_cons_unit_of_mem v f inb w L y (ix2 (y 0) (⟨_, h1⟩ : Fin 512)) hoff ?_]
    · exact (hw _ _ _ (show (y 1).val = 512 * n + ((y 1).val - 512 * n) by omega)).trans (congrArg G (eq_ix2 y).symm)
    · intro a
      match a with
      | ⟨0, _⟩ => show (y 0).val = 0 + (y 0).val; omega
      | ⟨1, _⟩ => show (y 1).val = 512 * n + ((y 1).val - 512 * n); omega
end

/-- A chunk's codes are the block's codes on the chunk's rows. -/
theorem codes_row {x : Vec F S512x1536 .bf16} {g : Vec F S1x1536 .f32} {t : Vec F S1x1x1536 .f32} {n : ℕ} (hn : n < 16) (r : Fin 512) (z : Fin 32) (c : Fin 1536)
    (h : r.val = 32 * n + z.val) :
    chunkCodes (rows x ⟨n, hn⟩) g t (ix3 (0 : Fin 1) z c) = codesOf x g t (ix3 (0 : Fin 1) r c) := by
  have hk : chunkOf r = ⟨n, hn⟩ := Fin.ext (by have := z.isLt; show r.val / 32 = n; omega)
  have hz : inChunk r = z := Fin.ext (by have := z.isLt; show r.val % 32 = z.val; omega)
  show _ = chunkCodes (rows x (chunkOf r)) g t (ix3 (0 : Fin 1) (inChunk r) c)
  rw [hk, hz]

/-- A chunk's scales are the block's scales on the chunk's rows. -/
theorem scale_row {x : Vec F S512x1536 .bf16} {g : Vec F S1x1536 .f32} {t : Vec F S1x1x1536 .f32} {n : ℕ} (hn : n < 16) (r : Fin 512) (z : Fin 32)
    (h : r.val = 32 * n + z.val) :
    chunkScale (rows x ⟨n, hn⟩) g t (ix2 z (0 : Fin 1)) = scaleOf x g t (ix3 (0 : Fin 1) r (0 : Fin 1)) := by
  have hk : chunkOf r = ⟨n, hn⟩ := Fin.ext (by have := z.isLt; show r.val / 32 = n; omega)
  have hz : inChunk r = z := Fin.ext (by have := z.isLt; show r.val % 32 = z.val; omega)
  show _ = chunkScale (rows x (chunkOf r)) g t (ix2 (inChunk r) (0 : Fin 1))
  rw [hk, hz]

/-- A tile is the projected block on the tile's columns. -/
theorem tile_col {q : Vec F S1x512x1536 .fp8e4m3} {sc : Vec F S1x512x1 .f32} {w : Vec F S1536x6144 .fp8e4m3} {ws b : Vec F S1x6144 .f32} {n : ℕ} (hn : n < 12)
    (r : Fin 512) (c : Fin 6144) (z : Fin 512) (h : c.val = 512 * n + z.val) :
    tileY q sc w ws b ⟨n, hn⟩ (ix2 r z) = outY q sc w ws b (ix2 r c) := by
  have hk : tileOf c = ⟨n, hn⟩ := Fin.ext (by have := z.isLt; show c.val / 512 = n; omega)
  have hz : inTile c = z := Fin.ext (by have := z.isLt; show c.val % 512 = z.val; omega)
  show _ = tileY q sc w ws b (tileOf c) (ix2 r (inTile c))
  rw [hk, hz]

/-! ## The three steps, on the kernel's own payloads -/

section
variable {sig' : RefSig} {κ' : Kind} {sp' : Space}

/-- Storing the codes of chunk `n` takes a slot from `n` chunks to `n + 1`. -/
theorem GoodQ.chunk {v : View sig' κ' sp' S2x512x1536 .fp8e4m3} {f : v.ty.Contents (Elt F)} {L : List (View.Piece (Elt F) S2x512x1536 .fp8e4m3)} {p n : ℕ}
    {x : Vec F S512x1536 .bf16} {g : Vec F S1x1536 .f32} {t : Vec F S1x1x1536 .f32} {off : Fin 3 → ℕ} {inb : ∀ a, off a + S1x32x1536.size a ≤ S2x512x1536.size a}
    {w : Vec F S1x32x1536 .fp8e4m3} (hoff : off = ![p, 32 * n, 0]) (hn : n < 16)
    (hw : w = chunkCodes (rows x ⟨n, hn⟩) g t)
    (hL : GoodQ v f L p (codesOf x g t) n) :
    GoodQ v f ((⟨Rect.unit (s := S2x512x1536) off S1x32x1536.size inb, w⟩ : View.Piece (Elt F) S2x512x1536 .fp8e4m3) :: L) p (codesOf x g t) (n + 1) :=
  GoodQ.cons hoff (fun r z c h => by rw [hw]; exact codes_row hn r z c h) hL

/-- Storing the scales of chunk `n` takes a slot from `n` chunks to `n + 1`. -/
theorem GoodS.chunk {v : View sig' κ' sp' S2x512x1 .f32} {f : v.ty.Contents (Elt F)} {L : List (View.Piece (Elt F) S2x512x1 .f32)} {p n : ℕ}
    {x : Vec F S512x1536 .bf16} {g : Vec F S1x1536 .f32} {t : Vec F S1x1x1536 .f32} {inb0 : ∀ a, (![p, 0, 0] : Fin 3 → ℕ) a + (![1, 512, 1] : Fin 3 → ℕ) a ≤ S2x512x1.size a}
    {off : Fin 2 → ℕ} {inb : ∀ a, off a + (![32, 1] : Fin 2 → ℕ) a ≤ S512x1.size a} {h0 hs hl}
    {hR : ((Rect.unit (s := S512x1) off ![32, 1] inb).consLift ![1, 512, 1] h0 hs).shape.numel = (Rect.unit (s := S512x1) off ![32, 1] inb).shape.numel}
    {w : Vec F S32x1 .f32} (hoff : off = ![32 * n, 0]) (hn : n < 16)
    (hw : w = chunkScale (rows x ⟨n, hn⟩) g t)
    (hL : GoodS v f L p (scaleOf x g t) n) :
    GoodS v f ((⟨(Rect.unit (s := S2x512x1) ![p, 0, 0] ![1, 512, 1] inb0).within ((Rect.unit (s := S512x1) off ![32, 1] inb).consLift ![1, 512, 1] h0 hs) hl,
      Rect.payAlong (r := Rect.unit (s := S512x1) off ![32, 1] inb) hR w⟩ : View.Piece (Elt F) S2x512x1 .f32) :: L) p (scaleOf x g t) (n + 1) :=
  GoodS.cons hoff (fun r z h => by rw [hw]; exact scale_row hn r z h) hL

/-- Storing tile `n` takes the output block from `n` tiles to `n + 1`. -/
theorem GoodY.tile {v : View sig' κ' sp' S512x6144 .bf16} {f : v.ty.Contents (Elt F)} {L : List (View.Piece (Elt F) S512x6144 .bf16)} {n : ℕ}
    {q : Vec F S1x512x1536 .fp8e4m3} {sc : Vec F S1x512x1 .f32} {W : Vec F S1536x6144 .fp8e4m3} {ws b : Vec F S1x6144 .f32}
    {off : Fin 2 → ℕ} {inb : ∀ a, off a + S512x512.size a ≤ S512x6144.size a}
    {w : Vec F S512x512 .bf16} (hoff : off = ![0, 512 * n]) (hn : n < 12)
    (hw : w = tileY q sc W ws b ⟨n, hn⟩)
    (hL : GoodY v f L (outY q sc W ws b) n) :
    GoodY v f ((⟨Rect.unit (s := S512x6144) off S512x512.size inb, w⟩ : View.Piece (Elt F) S512x6144 .bf16) :: L) (outY q sc W ws b) (n + 1) :=
  GoodY.cons hoff (fun r c z h => by rw [hw]; exact tile_col hn r c z h) hL

/-- Sixteen chunks make the slot. -/
theorem GoodQ.slot {v : View sig' κ' sp' S2x512x1536 .fp8e4m3} {f : v.ty.Contents (Elt F)} {L : List (View.Piece (Elt F) S2x512x1536 .fp8e4m3)} {p : ℕ}
    {G : Vec F S1x512x1536 .fp8e4m3} (h : GoodQ v f L p G 16) (s : Fin 2) (hs : s.val = p) : slotQ s (v.read (Elt F) (v.writes (Elt F) f L)) = G := by
  subst hs
  funext y
  have h0 : (y 0).val = 0 := by have := (y 0).isLt; change (y 0).val < 1 at this; omega
  have h1 : (y 1).val < 512 := (y 1).isLt
  refine (h ((Rect.unit (s := S2x512x1536) ![s.val, 0, 0] S1x512x1536.size (inb_slotQ s)).idx y) ?_ ?_).trans (congrArg G ?_)
  · show s.val + 1 * (y 0).val = s.val; omega
  · show 0 + 1 * (y 1).val < 32 * 16; omega
  · funext a
    match a with
    | ⟨0, _⟩ => exact Fin.ext h0.symm
    | ⟨1, _⟩ => exact Fin.ext (show 0 + 1 * (y 1).val = (y 1).val by omega)
    | ⟨2, _⟩ => exact Fin.ext (show 0 + 1 * (y 2).val = (y 2).val by omega)

/-- Sixteen chunks make the slot. -/
theorem GoodS.slot {v : View sig' κ' sp' S2x512x1 .f32} {f : v.ty.Contents (Elt F)} {L : List (View.Piece (Elt F) S2x512x1 .f32)} {p : ℕ}
    {G : Vec F S1x512x1 .f32} (h : GoodS v f L p G 16) (s : Fin 2) (hs : s.val = p) : slotS s (v.read (Elt F) (v.writes (Elt F) f L)) = G := by
  subst hs
  funext y
  have h0 : (y 0).val = 0 := by have := (y 0).isLt; change (y 0).val < 1 at this; omega
  have h2 : (y 2).val = 0 := by have := (y 2).isLt; change (y 2).val < 1 at this; omega
  have h1 : (y 1).val < 512 := (y 1).isLt
  refine (h ((Rect.unit (s := S2x512x1) ![s.val, 0, 0] S1x512x1.size (inb_slotS s)).idx y) ?_ ?_).trans (congrArg G ?_)
  · show s.val + 1 * (y 0).val = s.val; omega
  · show 0 + 1 * (y 1).val < 32 * 16; omega
  · funext a
    match a with
    | ⟨0, _⟩ => exact Fin.ext h0.symm
    | ⟨1, _⟩ => exact Fin.ext (show 0 + 1 * (y 1).val = (y 1).val by omega)
    | ⟨2, _⟩ => exact Fin.ext h2.symm

/-- The slot's codes, the gain row and the shift row told apart. -/
theorem GoodQ.block {v : View sig' κ' sp' S2x512x1536 .fp8e4m3} {f : v.ty.Contents (Elt F)} {L : List (View.Piece (Elt F) S2x512x1536 .fp8e4m3)} {p : ℕ}
    {x : Vec F S512x1536 .bf16} {s s' t t' : Vec F S1x1x1536 .f32} {L' : List (View.Piece (Elt F) S1x1536 .f32)} (i : Fin 2) (hi : i.val = p)
    (h : GoodQ v f L p (codesOf x (storedGain s' L') t') 16) (hs : s' = s) (ht : t' = t) :
    slotQ i (v.read (Elt F) (v.writes (Elt F) f L)) = blkCodes x s t := by
  subst hs ht; rw [storedGain_eq] at h; exact h.slot i hi
/-- The slot's scales, the gain row and the shift row told apart. -/
theorem GoodS.block {v : View sig' κ' sp' S2x512x1 .f32} {f : v.ty.Contents (Elt F)} {L : List (View.Piece (Elt F) S2x512x1 .f32)} {p : ℕ}
    {x : Vec F S512x1536 .bf16} {s s' t t' : Vec F S1x1x1536 .f32} {L' : List (View.Piece (Elt F) S1x1536 .f32)} (i : Fin 2) (hi : i.val = p)
    (h : GoodS v f L p (scaleOf x (storedGain s' L') t') 16) (hs : s' = s) (ht : t' = t) :
    slotS i (v.read (Elt F) (v.writes (Elt F) f L)) = blkScale x s t := by
  subst hs ht; rw [storedGain_eq] at h; exact h.slot i hi

/-- Twelve tiles make the output block. -/
theorem GoodY.whole {v : View sig' κ' sp' S512x6144 .bf16} {f : v.ty.Contents (Elt F)} {L : List (View.Piece (Elt F) S512x6144 .bf16)}
    {G : Vec F S512x6144 .bf16} (h : GoodY v f L G 12) : v.read (Elt F) (v.writes (Elt F) f L) = G :=
  funext fun y => h y (show (y 1).val < 6144 from (y 1).isLt)
end

end Cert.Kernel.Body
end
-- ==== Proof.Kernel.Slots.lean ====
/- Which slot of the two-slot buffers the kernel's body reads and which it writes at a point of the grid, with the
   offsets of its accesses there. -/
module

public import proofs.«01_k».proof.Proof.Gen.Kernel.Frame
public import proofs.«01_k».proof.Proof.Kernel.Chunk
public import Idealize.ShloMosaic.Lib.VecWindow
public import Idealize.ShloMosaic.Lib.Tactic

@[expose] public section

set_option maxRecDepth 16384
noncomputable section
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where the body's accesses to the two-slot buffers lie: slot `p` the one written, slot `q` the one read. -/
theorem offs (i : grid0.Coords) (p q : ℕ) (hp : 1 - (i 0).val % 2 = p) (hq : (i 0).val % 2 = q) :
    k0_off1 i = ![p, 0, 0]
    ∧ k0_off2 i = ![p, 0, 0]
    ∧ k0_off3 i = ![p, 0, 0]
    ∧ k0_off4 i = ![p, 32, 0]
    ∧ k0_off5 i = ![p, 64, 0]
    ∧ k0_off6 i = ![p, 96, 0]
    ∧ k0_off7 i = ![p, 128, 0]
    ∧ k0_off8 i = ![p, 160, 0]
    ∧ k0_off9 i = ![p, 192, 0]
    ∧ k0_off10 i = ![p, 224, 0]
    ∧ k0_off11 i = ![p, 256, 0]
    ∧ k0_off12 i = ![p, 288, 0]
    ∧ k0_off13 i = ![p, 320, 0]
    ∧ k0_off14 i = ![p, 352, 0]
    ∧ k0_off15 i = ![p, 384, 0]
    ∧ k0_off16 i = ![p, 416, 0]
    ∧ k0_off17 i = ![p, 448, 0]
    ∧ k0_off18 i = ![p, 480, 0]
    ∧ k0_off19 i = ![q, 0, 0]
    ∧ k0_off20 i = ![q, 0, 0] := by
  subst hp hq
  have h32 : (i 0).val < 32 := (i 0).isLt
  unfold k0_off1 k0_off2 k0_off3 k0_off4 k0_off5 k0_off6 k0_off7 k0_off8 k0_off9 k0_off10 k0_off11 k0_off12 k0_off13 k0_off14 k0_off15 k0_off16 k0_off17 k0_off18 k0_off19 k0_off20
  generalize (i 0).val = j at *
  refine ⟨?_, ?_, ?_, ?_, ?_, ?_, ?_, ?_, ?_, ?_, ?_, ?_, ?_, ?_, ?_, ?_, ?_, ?_, ?_, ?_⟩ <;> (interval_cases j <;> rfl)

/-- The written slot's view of the scales, with its place spelt out. -/
theorem slotView (i : grid0.Coords) (o : Fin 3 → ℕ) (ho : k0_off3 i = o) (inb) (inb' : ∀ a, o a + S1x512x1.size a ≤ S2x512x1.size a) (h) (h') (hq) (hq') :
    ((Memref.whole cc0_scratch1 : Memref sig .tc .vmem S2x512x1 .f32).slice (Rect.unit (s := S2x512x1) (k0_off3 i) S1x512x1.size inb) h).squeeze S512x1 hq
      = ((Memref.whole cc0_scratch1 : Memref sig .tc .vmem S2x512x1 .f32).slice (Rect.unit (s := S2x512x1) o S1x512x1.size inb') h').squeeze S512x1 hq' := by
  subst ho; rfl

/-- The prologue's condition: it holds at point 0 alone. -/
theorem cond_first (i : grid0.Coords) (h : (i 0).val = 0) :
    (Scalar.cmpi .ne (Scalar.extui (Scalar.cmpi .eq (BitVec.ofNat 32 (i 0).val) 0#32) : BitVec 32) 0#32 = 1#1) := by
  rw [h]; decide
/-- Past the first point the prologue's condition is false. -/
theorem cond_later (i : grid0.Coords) (h : (i 0).val ≠ 0) :
    ¬ (Scalar.cmpi .ne (Scalar.extui (Scalar.cmpi .eq (BitVec.ofNat 32 (i 0).val) 0#32) : BitVec 32) 0#32 = 1#1) := by
  have h32 : (i 0).val < 32 := (i 0).isLt
  generalize (i 0).val = j at *
  interval_cases j <;> first | (exfalso; omega) | decide

/-- The slot that holds the point's own block, and the one the next block goes into. -/
def cur (i : grid0.Coords) : Fin 2 := ⟨(i 0).val % 2, by omega⟩
def nxt (i : grid0.Coords) : Fin 2 := ⟨1 - (i 0).val % 2, by omega⟩

/-- The codes a point loads are those of its current slot. -/
theorem readQ (i : grid0.Coords) (d : Vec F S2x512x1536 .fp8e4m3) :
    View.ld d (Rect.unit (s := S2x512x1536) (k0_off19 i) S1x512x1536.size (k0_off19_inb i)) = slotQ (cur i) d := by
  have h : k0_off19 i = ![(cur i).val, 0, 0] := by
    obtain ⟨-, -, -, -, -, -, -, -, -, -, -, -, -, -, -, -, -, -, h, -⟩ := offs i _ _ rfl rfl
    exact h
  exact ld_congr h _ _ d
/-- The scales a point loads are those of its current slot. -/
theorem readS (i : grid0.Coords) (d : Vec F S2x512x1 .f32) :
    View.ld d (Rect.unit (s := S2x512x1) (k0_off20 i) S1x512x1.size (k0_off20_inb i)) = slotS (cur i) d := by
  have h : k0_off20 i = ![(cur i).val, 0, 0] := by
    obtain ⟨-, -, -, -, -, -, -, -, -, -, -, -, -, -, -, -, -, -, -, h⟩ := offs i _ _ rfl rfl
    exact h
  exact ld_congr h _ _ d

end Cert.Kernel.Body
end
-- ==== Proof.Kernel.Points.lean ====
/- The kernel's body, run symbolically at a point of its grid after the first. At point `i` slot `i mod 2` of the
   two-slot buffers holds the quantised block `i`; the body quantises the next block into the other slot and
   projects the stored one. -/
module

public import proofs.«01_k».proof.Proof.Gen.Kernel.Frame
public import proofs.«01_k».proof.Proof.Kernel.Slots
public import Idealize.ShloMosaic.Lib.VecWindow
public import Idealize.ShloMosaic.Lib.Tactic

@[expose] public section

set_option maxRecDepth 16384
noncomputable section
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
set_option sl_exec.squeezeSlice true in
/-- At every later point the body leaves the projection of the stored block in the output buffers, and the next block
    quantised in the other slot. -/
theorem runMain (c : Dev nD) (E : Set ℕ) (i : grid0.Coords) (hi : (i 0).val ≠ 0)
    (arg1 : Memref sig .tc .vmem S512x1536 .bf16) (harg1 : arg1.IsWhole)
    (arg2 : Memref sig .tc .vmem S512x1536 .bf16) (harg2 : arg2.IsWhole)
    (arg3 : Memref sig .tc .vmem S1x1x1536 .f32) (harg3 : arg3.IsWhole)
    (arg4 : Memref sig .tc .vmem S1x1x1536 .f32) (harg4 : arg4.IsWhole)
    (arg5 : Memref sig .tc .vmem S1x1x1536 .f32) (harg5 : arg5.IsWhole)
    (arg6 : Memref sig .tc .vmem S1x1x1536 .f32) (harg6 : arg6.IsWhole)
    (arg7 : Memref sig .tc .vmem S1536x6144 .fp8e4m3) (harg7 : arg7.IsWhole)
    (arg8 : Memref sig .tc .vmem S1x6144 .f32) (harg8 : arg8.IsWhole)
    (arg9 : Memref sig .tc .vmem S1x6144 .f32) (harg9 : arg9.IsWhole)
    (arg10 : Memref sig .tc .vmem S512x6144 .bf16) (harg10 : arg10.IsWhole)
    (arg11 : Memref sig .tc .vmem S512x1536 .fp8e4m3) (harg11 : arg11.IsWhole)
    (arg12 : Memref sig .tc .vmem S512x1 .f32) (harg12 : arg12.IsWhole)
    (x1 : Vec F S512x1536 .bf16) (x2 : Vec F S512x1536 .bf16) (x3 : Vec F S1x1x1536 .f32) (x4 : Vec F S1x1x1536 .f32) (x5 : Vec F S1x1x1536 .f32) (x6 : Vec F S1x1x1536 .f32) (x7 : Vec F S1536x6144 .fp8e4m3) (x8 : Vec F S1x6144 .f32) (x9 : Vec F S1x6144 .f32) (d13 : Vec F S2x512x1536 .fp8e4m3) (d14 : Vec F S2x512x1 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ (∃ d, owns (c : Thread nD τ) arg10 fullShare d) ∗ (∃ d, owns (c : Thread nD τ) arg11 fullShare d) ∗ (∃ d, owns (c : Thread nD τ) arg12 fullShare d)
      ∗ owns (c : Thread nD τ) (Memref.whole cc0_scratch0) fullShare d13
      ∗ owns (c : Thread nD τ) (Memref.whole cc0_scratch1) fullShare d14
      ∗ (∃ d, owns (c : Thread nD τ) (Memref.whole cc0_scratch2) fullShare d)
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare (outY (slotQ (cur i) d13) (slotS (cur i) d14) x7 x8 x9)
          ∗ owns (c : Thread nD τ) arg11 fullShare (outCodes (slotQ (cur i) d13))
          ∗ owns (c : Thread nD τ) arg12 fullShare (outScale (slotS (cur i) d14))
          ∗ (∃ d, owns (c : Thread nD τ) (Memref.whole cc0_scratch0) fullShare d ∗ ⌜slotQ (nxt i) d = blkCodes x2 x5 x6⌝)
          ∗ (∃ d, owns (c : Thread nD τ) (Memref.whole cc0_scratch1) fullShare d ∗ ⌜slotS (nxt i) d = blkScale x2 x5 x6⌝)
          ∗ (∃ d, owns (c : Thread nD τ) (Memref.whole cc0_scratch2) fullShare d)) -∗ K ⟨⟩))
      ⊢ wp frame (wpE (defs₀ (F := F)) Variants.none c none) E (cc0_adaln_linear i arg1 harg1 arg2 harg2 arg3 harg3 arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _)) K := by
  simp only [cc0_adaln_linear_eq_skeleton]; unfold cc0_adaln_linear_skel
  simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
  unfold k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel
  simp only [dif_neg (cond_later i hi)]
  have hpar : (1 - (i 0).val % 2 = 1 ∧ (i 0).val % 2 = 0) ∨ (1 - (i 0).val % 2 = 0 ∧ (i 0).val % 2 = 1) := by omega
  rcases hpar with ⟨hp, hq⟩ | ⟨hp, hq⟩
  all_goals
    obtain ⟨o1, o2, o3, o4, o5, o6, o7, o8, o9, o10, o11, o12, o13, o14, o15, o16, o17, o18, o19, o20⟩ := offs i _ _ hp hq
    simp only [slotView i _ o3 _ (by decide) _ (fun _ => rfl) _ squeezes_S1x512x1_S512x1]
    letI : ClosedOff (k0_off1 i) := ⟨_, o1⟩
    letI : ClosedOff (k0_off2 i) := ⟨_, o2⟩
    letI : ClosedOff (k0_off3 i) := ⟨_, o3⟩
    letI : ClosedOff (k0_off4 i) := ⟨_, o4⟩
    letI : ClosedOff (k0_off5 i) := ⟨_, o5⟩
    letI : ClosedOff (k0_off6 i) := ⟨_, o6⟩
    letI : ClosedOff (k0_off7 i) := ⟨_, o7⟩
    letI : ClosedOff (k0_off8 i) := ⟨_, o8⟩
    letI : ClosedOff (k0_off9 i) := ⟨_, o9⟩
    letI : ClosedOff (k0_off10 i) := ⟨_, o10⟩
    letI : ClosedOff (k0_off11 i) := ⟨_, o11⟩
    letI : ClosedOff (k0_off12 i) := ⟨_, o12⟩
    letI : ClosedOff (k0_off13 i) := ⟨_, o13⟩
    letI : ClosedOff (k0_off14 i) := ⟨_, o14⟩
    letI : ClosedOff (k0_off15 i) := ⟨_, o15⟩
    letI : ClosedOff (k0_off16 i) := ⟨_, o16⟩
    letI : ClosedOff (k0_off17 i) := ⟨_, o17⟩
    letI : ClosedOff (k0_off18 i) := ⟨_, o18⟩
    letI : ClosedOff (k0_off19 i) := ⟨_, o19⟩
    letI : ClosedOff (k0_off20 i) := ⟨_, o20⟩
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, Hk⟩
    subst hf1 hf2 hf3 hf4 hf5 hf6 hf7 hf8 hf9 hf13 hf14
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    rw [← readQ i, ← readS i]
    isplitl [H10]
    · iexists _; isplitr
      swap; · iexact H10
      ipureintro
      refine GoodY.whole ?_
      iterate 12 refine GoodY.tile (by rfl) (by decide) (by rfl) ?_
      exact GoodY.zero _ _ _ _
    isplitl [H11]
    · iexists _; isplitr
      swap; · iexact H11
      ipureintro
      exact View.read_writes_full _ _ _ _ _
    isplitl [H12]
    · iexists _; isplitr
      swap; · iexact H12
      ipureintro
      exact View.read_writes_full _ _ _ _ _
    isplitl [H13]
    · iexists _; isplitl
      · iexists _; isplitr
        swap; · iexact H13
        ipureintro; rfl
      ipureintro
      refine GoodQ.block (s := arg5.view.read (Elt F) f5) (t := arg6.view.read (Elt F) f6) (s' := rowLd arg5.view f5) (t' := rowLd arg6.view f6) (L' := []) (nxt i) hp ?_ (rowLd_eq _ _) (rowLd_eq _ _)
      iterate 16 refine GoodQ.chunk ClosedOff.eq (by decide) (by dsimp only; rfl) ?_
      exact GoodQ.zero _ _ _ _ _
    isplitl [H14]
    · iexists _; isplitl
      · iexists _; isplitr
        swap; · iexact H14
        ipureintro; rfl
      ipureintro
      refine GoodS.block (s := arg5.view.read (Elt F) f5) (t := arg6.view.read (Elt F) f6) (s' := rowLd arg5.view f5) (t' := rowLd arg6.view f6) (L' := []) (nxt i) hp ?_ (rowLd_eq _ _) (rowLd_eq _ _)
      iterate 16 refine GoodS.chunk (by rfl) (by decide) (by dsimp only; rfl) ?_
      exact GoodS.zero _ _ _ _ _
    iexists _; iexists _; isplitr
    swap; · iexact H15
    ipureintro; rfl

end Cert.Kernel.Body
end
-- ==== Proof.Kernel.First.lean ====
/- The kernel's body, run symbolically at the first point of its grid: it first quantises block 0 into slot 0, then
   goes on as at every point. -/
module

public import proofs.«01_k».proof.Proof.Gen.Kernel.Frame
public import proofs.«01_k».proof.Proof.Kernel.Slots
public import Idealize.ShloMosaic.Lib.VecWindow
public import Idealize.ShloMosaic.Lib.Tactic

@[expose] public section

set_option maxRecDepth 16384
noncomputable section
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
set_option sl_exec.squeezeSlice true in
/-- At point 0 the body leaves the projection of the block it quantised into slot 0 in the output buffers, and the next block
    quantised in the other slot. -/
theorem runFirst (c : Dev nD) (E : Set ℕ) (i : grid0.Coords) (hi : (i 0).val = 0)
    (arg1 : Memref sig .tc .vmem S512x1536 .bf16) (harg1 : arg1.IsWhole)
    (arg2 : Memref sig .tc .vmem S512x1536 .bf16) (harg2 : arg2.IsWhole)
    (arg3 : Memref sig .tc .vmem S1x1x1536 .f32) (harg3 : arg3.IsWhole)
    (arg4 : Memref sig .tc .vmem S1x1x1536 .f32) (harg4 : arg4.IsWhole)
    (arg5 : Memref sig .tc .vmem S1x1x1536 .f32) (harg5 : arg5.IsWhole)
    (arg6 : Memref sig .tc .vmem S1x1x1536 .f32) (harg6 : arg6.IsWhole)
    (arg7 : Memref sig .tc .vmem S1536x6144 .fp8e4m3) (harg7 : arg7.IsWhole)
    (arg8 : Memref sig .tc .vmem S1x6144 .f32) (harg8 : arg8.IsWhole)
    (arg9 : Memref sig .tc .vmem S1x6144 .f32) (harg9 : arg9.IsWhole)
    (arg10 : Memref sig .tc .vmem S512x6144 .bf16) (harg10 : arg10.IsWhole)
    (arg11 : Memref sig .tc .vmem S512x1536 .fp8e4m3) (harg11 : arg11.IsWhole)
    (arg12 : Memref sig .tc .vmem S512x1 .f32) (harg12 : arg12.IsWhole)
    (x1 : Vec F S512x1536 .bf16) (x2 : Vec F S512x1536 .bf16) (x3 : Vec F S1x1x1536 .f32) (x4 : Vec F S1x1x1536 .f32) (x5 : Vec F S1x1x1536 .f32) (x6 : Vec F S1x1x1536 .f32) (x7 : Vec F S1536x6144 .fp8e4m3) (x8 : Vec F S1x6144 .f32) (x9 : Vec F S1x6144 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ (∃ d, owns (c : Thread nD τ) arg10 fullShare d) ∗ (∃ d, owns (c : Thread nD τ) arg11 fullShare d) ∗ (∃ d, owns (c : Thread nD τ) arg12 fullShare d)
      ∗ (∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare (outY (blkCodes x1 x3 x4) (blkScale x1 x3 x4) x7 x8 x9)
          ∗ owns (c : Thread nD τ) arg11 fullShare (outCodes (blkCodes x1 x3 x4))
          ∗ owns (c : Thread nD τ) arg12 fullShare (outScale (blkScale x1 x3 x4))
          ∗ (∃ d, owns (c : Thread nD τ) (Memref.whole cc0_scratch0) fullShare d ∗ ⌜slotQ (nxt i) d = blkCodes x2 x5 x6⌝)
          ∗ (∃ d, owns (c : Thread nD τ) (Memref.whole cc0_scratch1) fullShare d ∗ ⌜slotS (nxt i) d = blkScale x2 x5 x6⌝)
          ∗ (∃ d, owns (c : Thread nD τ) (Memref.whole cc0_scratch2) fullShare d)) -∗ K ⟨⟩))
      ⊢ wp frame (wpE (defs₀ (F := F)) Variants.none c none) E (cc0_adaln_linear i arg1 harg1 arg2 harg2 arg3 harg3 arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _)) K := by
  simp only [cc0_adaln_linear_eq_skeleton]; unfold cc0_adaln_linear_skel
  simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
  unfold k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel
  simp only [dif_pos (cond_first i hi)]
  simp only [k0_part33_eq_skeleton]; unfold k0_part33_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel
  have hp : 1 - (i 0).val % 2 = 1 := by omega
  have hq : (i 0).val % 2 = 0 := by omega
  obtain ⟨o1, o2, o3, o4, o5, o6, o7, o8, o9, o10, o11, o12, o13, o14, o15, o16, o17, o18, o19, o20⟩ := offs i _ _ hp hq
  simp only [slotView i _ o3 _ (by decide) _ (fun _ => rfl) _ squeezes_S1x512x1_S512x1]
  letI : ClosedOff (k0_off1 i) := ⟨_, o1⟩
  letI : ClosedOff (k0_off2 i) := ⟨_, o2⟩
  letI : ClosedOff (k0_off3 i) := ⟨_, o3⟩
  letI : ClosedOff (k0_off4 i) := ⟨_, o4⟩
  letI : ClosedOff (k0_off5 i) := ⟨_, o5⟩
  letI : ClosedOff (k0_off6 i) := ⟨_, o6⟩
  letI : ClosedOff (k0_off7 i) := ⟨_, o7⟩
  letI : ClosedOff (k0_off8 i) := ⟨_, o8⟩
  letI : ClosedOff (k0_off9 i) := ⟨_, o9⟩
  letI : ClosedOff (k0_off10 i) := ⟨_, o10⟩
  letI : ClosedOff (k0_off11 i) := ⟨_, o11⟩
  letI : ClosedOff (k0_off12 i) := ⟨_, o12⟩
  letI : ClosedOff (k0_off13 i) := ⟨_, o13⟩
  letI : ClosedOff (k0_off14 i) := ⟨_, o14⟩
  letI : ClosedOff (k0_off15 i) := ⟨_, o15⟩
  letI : ClosedOff (k0_off16 i) := ⟨_, o16⟩
  letI : ClosedOff (k0_off17 i) := ⟨_, o17⟩
  letI : ClosedOff (k0_off18 i) := ⟨_, o18⟩
  letI : ClosedOff (k0_off19 i) := ⟨_, o19⟩
  letI : ClosedOff (k0_off20 i) := ⟨_, o20⟩
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  have hQ : runFirst.sl.v1277 c i arg1 arg2 arg3 arg4 arg5 arg6 f1 f2 f3 f4 f5 f6 f13 = blkCodes (arg1.view.read (Elt F) f1) (arg3.view.read (Elt F) f3) (arg4.view.read (Elt F) f4) := by
    refine (readQ i _).trans ?_
    refine GoodQ.block (s := arg3.view.read (Elt F) f3) (t := arg4.view.read (Elt F) f4) (s' := rowLd arg3.view f3) (t' := rowLd arg4.view f4) (L' := []) (cur i) hq ?_ (rowLd_eq _ _) (rowLd_eq _ _)
    iterate 16 refine GoodQ.skip ClosedOff.eq (by decide) ?_
    iterate 16 refine GoodQ.chunk (by rfl) (by decide) (by dsimp only; rfl) ?_
    exact GoodQ.zero _ _ _ _ _
  have hS : runFirst.sl.v1280 c i arg1 arg2 arg3 arg4 arg5 arg6 f1 f2 f3 f4 f5 f6 f13 = blkScale (arg1.view.read (Elt F) f1) (arg3.view.read (Elt F) f3) (arg4.view.read (Elt F) f4) := by
    refine (readS i _).trans ?_
    refine GoodS.block (s := arg3.view.read (Elt F) f3) (t := arg4.view.read (Elt F) f4) (s' := rowLd arg3.view f3) (t' := rowLd arg4.view f4) (L' := []) (cur i) hq ?_ (rowLd_eq _ _) (rowLd_eq _ _)
    iterate 16 refine GoodS.skip (by decide) ?_
    iterate 16 refine GoodS.chunk (by rfl) (by decide) (by dsimp only; rfl) ?_
    exact GoodS.zero _ _ _ _ _
  rw [← hQ, ← hS]
  generalize runFirst.sl.v1277 c i arg1 arg2 arg3 arg4 arg5 arg6 f1 f2 f3 f4 f5 f6 f13 = q, runFirst.sl.v1280 c i arg1 arg2 arg3 arg4 arg5 arg6 f1 f2 f3 f4 f5 f6 f13 = sc at *
  isplitl [H10]
  · iexists _; isplitr
    swap; · iexact H10
    ipureintro
    refine GoodY.whole ?_
    iterate 12 refine GoodY.tile (by rfl) (by decide) (by rfl) ?_
    exact GoodY.zero _ _ _ _
  isplitl [H11]
  · iexists _; isplitr
    swap; · iexact H11
    ipureintro
    exact View.read_writes_full _ _ _ _ _
  isplitl [H12]
  · iexists _; isplitr
    swap; · iexact H12
    ipureintro
    exact View.read_writes_full _ _ _ _ _
  isplitl [H13]
  · iexists _; isplitl
    · iexists _; isplitr
      swap; · iexact H13
      ipureintro; rfl
    ipureintro
    refine GoodQ.block (s := arg5.view.read (Elt F) f5) (t := arg6.view.read (Elt F) f6) (s' := rowLd arg5.view f5) (t' := rowLd arg6.view f6) (L' := [gainPiece (rowLd arg3.view f3)]) (nxt i) hp ?_ (rowLd_eq _ _) (rowLd_eq _ _)
    iterate 16 refine GoodQ.chunk ClosedOff.eq (by decide) (by dsimp only; rfl) ?_
    exact GoodQ.zero _ _ _ _ _
  isplitl [H14]
  · iexists _; isplitl
    · iexists _; isplitr
      swap; · iexact H14
      ipureintro; rfl
    ipureintro
    refine GoodS.block (s := arg5.view.read (Elt F) f5) (t := arg6.view.read (Elt F) f6) (s' := rowLd arg5.view f5) (t' := rowLd arg6.view f6) (L' := [gainPiece (rowLd arg3.view f3)]) (nxt i) hp ?_ (rowLd_eq _ _) (rowLd_eq _ _)
    iterate 16 refine GoodS.chunk (by rfl) (by decide) (by dsimp only; rfl) ?_
    exact GoodS.zero _ _ _ _ _
  iexists _; iexists _; isplitr
  swap; · iexact H15
  ipureintro; rfl

end Cert.Kernel.Body
end
-- ==== Proof.Kernel.Run.lean ====
/- The kernel's run: what the two-slot buffers hold between the points of the grid, the body's obligation at every
   point, and the frame. -/
module

public import proofs.«01_k».proof.Proof.Kernel.Points
public import proofs.«01_k».proof.Proof.Kernel.First
public import Idealize.ShloMosaic.Lib.Claim

@[expose] public section

set_option maxRecDepth 16384
noncomputable section
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks between the points -/

/-- The codes and the scales the body quantises at point `u` for the next point. -/
def nextQ (c : Dev nD) (u : Fin cfg0.N) : Vec F S1x512x1536 .fp8e4m3 := blkCodes (iblk m c 1 u) (iblk m c 4 u) (iblk m c 5 u)
def nextS (c : Dev nD) (u : Fin cfg0.N) : Vec F S1x512x1 .f32 := blkScale (iblk m c 1 u) (iblk m c 4 u) (iblk m c 5 u)

/-- The codes and the scales the body projects at point `t`: quantised there at point 0, at the point before otherwise. -/
def ownQ (c : Dev nD) (t : Fin cfg0.N) : Vec F S1x512x1536 .fp8e4m3 :=
  if t.val = 0 then blkCodes (iblk m c 0 t) (iblk m c 2 t) (iblk m c 3 t)
  else nextQ m c ⟨t.val - 1, Nat.lt_of_le_of_lt (Nat.sub_le _ _) t.isLt⟩
def ownS (c : Dev nD) (t : Fin cfg0.N) : Vec F S1x512x1 .f32 :=
  if t.val = 0 then blkScale (iblk m c 0 t) (iblk m c 2 t) (iblk m c 3 t)
  else nextS m c ⟨t.val - 1, Nat.lt_of_le_of_lt (Nat.sub_le _ _) t.isLt⟩

/-- The slot of block `t`. -/
def slotOf (t : ℕ) : Fin 2 := ⟨t % 2, Nat.mod_lt _ (by decide)⟩

/-- Between the points: once a point has passed, the slot of the coming block holds what the last point quantised. -/
def inv (c : Dev nD) (t : Fin (cfg0.N + 1)) : sProp 𝕄 :=
  iprop((∃ d, owns (c : Thread nD τ) (Memref.whole cc0_scratch0) fullShare d ∗ ⌜∀ u : Fin cfg0.N, u.val + 1 = t.val → slotQ (slotOf t.val) d = nextQ m c u⌝)
    ∗ (∃ d, owns (c : Thread nD τ) (Memref.whole cc0_scratch1) fullShare d ∗ ⌜∀ u : Fin cfg0.N, u.val + 1 = t.val → slotS (slotOf t.val) d = nextS m c u⌝)
    ∗ (∃ d, owns (c : Thread nD τ) (Memref.whole cc0_scratch2) fullShare d)
    ∗ ∃ r, prngReg c r)

/-- What the launch hands the body is the invariant before the first point. -/
theorem inv_first (c : Dev nD) : (Pipeline.ΦA spec0 c : sProp 𝕄) ⊢ inv m c 0 := by
  unfold Pipeline.ΦA inv
  rw [scopedRest0_eq]; simp only [owns_whole_eq]
  iintro ⟨⟨⟨%f0, H0⟩, ⟨%f1, H1⟩, ⟨%f2, H2⟩⟩, Hr⟩
  isplitl [H0]
  · iexists f0; isplitl
    · iexists f0; isplitr; · ipureintro; rfl
      iexact H0
    ipureintro; intro u h; exact absurd h (Nat.succ_ne_zero _)
  isplitl [H1]
  · iexists f1; isplitl
    · iexists f1; isplitr; · ipureintro; rfl
      iexact H1
    ipureintro; intro u h; exact absurd h (Nat.succ_ne_zero _)
  isplitl [H2]
  · iexists f2; iexists f2; isplitr; · ipureintro; rfl
    iexact H2
  iexact Hr

/-- The invariant after the last point is what the launch takes back. -/
theorem inv_last (c : Dev nD) : inv m c (Fin.last cfg0.N) ⊢ (Pipeline.ΦA spec0 c : sProp 𝕄) := by
  unfold Pipeline.ΦA inv
  rw [scopedRest0_eq]; simp only [owns_whole_eq]
  iintro ⟨⟨%d0, ⟨%f0, -, H0⟩, -⟩, ⟨%d1, ⟨%f1, -, H1⟩, -⟩, ⟨%d2, %f2, -, H2⟩, Hr⟩
  isplitr [Hr]
  · isplitl [H0]; · iexists f0; iexact H0
    isplitl [H1]; · iexists f1; iexact H1
    iexists f2; iexact H2
  iexact Hr

/-! ## The pipeline's proof data -/

/-- The proof data of the one pipeline on core `c`: each input's buffer at its block, the three outputs' at the
    projection of the point's own codes, at these codes and at their scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outY (ownQ m c t) (ownS m c t) (iblk m c 6 t) (iblk m c 7 t) (iblk m c 8 t)
    | ⟨10, _⟩ => outCodes (ownQ m c t)
    | ⟨11, _⟩ => outScale (ownS m c t)
  Φ t := inv m c t
  q w := Pipeline.shareOf spec0 w
  owed _ := 0

/-- The proof data's arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- The same at window 1. -/
theorem after0_1 (c : Dev nD) (t : Fin cfg0.N) : (dats m 0 c).after 1 t = iblk m c 1 t := by dsimp only [dats]
/-- The same at window 2. -/
theorem after0_2 (c : Dev nD) (t : Fin cfg0.N) : (dats m 0 c).after 2 t = iblk m c 2 t := by dsimp only [dats]
/-- The same at window 3. -/
theorem after0_3 (c : Dev nD) (t : Fin cfg0.N) : (dats m 0 c).after 3 t = iblk m c 3 t := by dsimp only [dats]
/-- The same at window 4. -/
theorem after0_4 (c : Dev nD) (t : Fin cfg0.N) : (dats m 0 c).after 4 t = iblk m c 4 t := by dsimp only [dats]
/-- The same at window 5. -/
theorem after0_5 (c : Dev nD) (t : Fin cfg0.N) : (dats m 0 c).after 5 t = iblk m c 5 t := by dsimp only [dats]
/-- The same at window 6. -/
theorem after0_6 (c : Dev nD) (t : Fin cfg0.N) : (dats m 0 c).after 6 t = iblk m c 6 t := by dsimp only [dats]
/-- The same at window 7. -/
theorem after0_7 (c : Dev nD) (t : Fin cfg0.N) : (dats m 0 c).after 7 t = iblk m c 7 t := by dsimp only [dats]
/-- The same at window 8. -/
theorem after0_8 (c : Dev nD) (t : Fin cfg0.N) : (dats m 0 c).after 8 t = iblk m c 8 t := by dsimp only [dats]
/-- The same at window 9. -/
theorem after0_9 (c : Dev nD) (t : Fin cfg0.N) : (dats m 0 c).after 9 t = outY (ownQ m c t) (ownS m c t) (iblk m c 6 t) (iblk m c 7 t) (iblk m c 8 t) := by dsimp only [dats]
/-- The same at window 10. -/
theorem after0_10 (c : Dev nD) (t : Fin cfg0.N) : (dats m 0 c).after 10 t = outCodes (ownQ m c t) := by dsimp only [dats]
/-- The same at window 11. -/
theorem after0_11 (c : Dev nD) (t : Fin cfg0.N) : (dats m 0 c).after 11 t = outScale (ownS m c t) := by dsimp only [dats]

/-- Each input's current staging buffer holds its block at every point. -/
theorem before0_0 (c : Dev nD) (t : Fin cfg0.N) (d) : (dats m 0 c).before 0 t d = iblk m c 0 t := before0_0_of m (dats m 0 c) (A_eq m c 0) (after0_0 m c) t d
/-- The same at window 1. -/
theorem before0_1 (c : Dev nD) (t : Fin cfg0.N) (d) : (dats m 0 c).before 1 t d = iblk m c 1 t := before0_1_of m (dats m 0 c) (A_eq m c 1) (after0_1 m c) t d
/-- The same at window 2. -/
theorem before0_2 (c : Dev nD) (t : Fin cfg0.N) (d) : (dats m 0 c).before 2 t d = iblk m c 2 t := before0_2_of m (dats m 0 c) (A_eq m c 2) (after0_2 m c) t d
/-- The same at window 3. -/
theorem before0_3 (c : Dev nD) (t : Fin cfg0.N) (d) : (dats m 0 c).before 3 t d = iblk m c 3 t := before0_3_of m (dats m 0 c) (A_eq m c 3) (after0_3 m c) t d
/-- The same at window 4. -/
theorem before0_4 (c : Dev nD) (t : Fin cfg0.N) (d) : (dats m 0 c).before 4 t d = iblk m c 4 t := before0_4_of m (dats m 0 c) (A_eq m c 4) (after0_4 m c) t d
/-- The same at window 5. -/
theorem before0_5 (c : Dev nD) (t : Fin cfg0.N) (d) : (dats m 0 c).before 5 t d = iblk m c 5 t := before0_5_of m (dats m 0 c) (A_eq m c 5) (after0_5 m c) t d
/-- The same at window 6. -/
theorem before0_6 (c : Dev nD) (t : Fin cfg0.N) (d) : (dats m 0 c).before 6 t d = iblk m c 6 t := before0_6_of m (dats m 0 c) (A_eq m c 6) (after0_6 m c) t d
/-- The same at window 7. -/
theorem before0_7 (c : Dev nD) (t : Fin cfg0.N) (d) : (dats m 0 c).before 7 t d = iblk m c 7 t := before0_7_of m (dats m 0 c) (A_eq m c 7) (after0_7 m c) t d
/-- The same at window 8. -/
theorem before0_8 (c : Dev nD) (t : Fin cfg0.N) (d) : (dats m 0 c).before 8 t d = iblk m c 8 t := before0_8_of m (dats m 0 c) (A_eq m c 8) (after0_8 m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The grid's one coordinate is the point's number. -/
theorem coord_val (t : Fin cfg0.N) : ((grid0.coords t) 0).val = t.val := by
  have h := Pipeline.Grid.coords_val (G := grid0) t 0 (S := 1) (B := 32) rfl rfl
  rw [h, Nat.div_one]; exact Nat.mod_eq_of_lt (N_0 ▸ t.isLt)
/-- The slot a point projects is the point's parity. -/
theorem cur_eq (t : Fin cfg0.N) : cur (grid0.coords t) = slotOf t.val := Fin.ext (by show _ % 2 = _ % 2; rw [coord_val])
/-- The slot a point fills is the other one. -/
theorem nxt_eq (t : Fin cfg0.N) : nxt (grid0.coords t) = slotOf (t.val + 1) := Fin.ext (by show 1 - _ % 2 = _ % 2; rw [coord_val]; omega)

/-- The body at any point, from the invariant before it to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = inv m c t.succ from rfl, show (dats m 0 c).Φ t.castSucc = inv m c t.castSucc from rfl,
    show (dats m 0 c).owesAt () t.succ = (dats m 0 c).owesAt () t.castSucc from rfl,
    after0_0, after0_1, after0_2, after0_3, after0_4, after0_5, after0_6, after0_7, after0_8, after0_9, after0_10, after0_11]
  unfold inv
  iintro ⟨⟨⟨%q, Hq, %hq⟩, ⟨%s, Hs, %hs⟩, Hg, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases h0 : t.val = 0
  · rw [show ownQ m c t = blkCodes (iblk m c 0 t) (iblk m c 2 t) (iblk m c 3 t) from if_pos h0,
      show ownS m c t = blkScale (iblk m c 0 t) (iblk m c 2 t) (iblk m c 3 t) from if_pos h0]
    iapply (runFirst c Set.univ (grid0.coords t) ((coord_val t).trans h0) _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [Hq]; · iexists _; iexact Hq
    isplitl [Hs]; · iexists _; iexact Hs
    isplitl [Hg]; · iexact Hg
    iintro ⟨H0, H1, H2, H3, H4, H5, H6, H7, H8, H9, H10, H11, ⟨%q', Hq, %hq'⟩, ⟨%s', Hs, %hs'⟩, Hg⟩
    rw [nxt_eq] at hq' hs'
    isplitl [Hq Hs Hg Hr]
    · isplitl [Hq]
      · iexists q'; isplitl; · iexact Hq
        ipureintro; intro u hu; rw [show u = t from Fin.ext (Nat.succ.inj hu)]; exact hq'
      isplitl [Hs]
      · iexists s'; isplitl; · iexact Hs
        ipureintro; intro u hu; rw [show u = t from Fin.ext (Nat.succ.inj hu)]; exact hs'
      isplitl [Hg]; · iexact Hg
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hlt : t.val - 1 < cfg0.N := Nat.lt_of_le_of_lt (Nat.sub_le _ _) t.isLt
    have hq := hq ⟨t.val - 1, hlt⟩ (show t.val - 1 + 1 = t.val by omega)
    have hs := hs ⟨t.val - 1, hlt⟩ (show t.val - 1 + 1 = t.val by omega)
    rw [show ownQ m c t = slotQ (cur (grid0.coords t)) q from by rw [cur_eq]; exact (if_neg h0).trans hq.symm,
      show ownS m c t = slotS (cur (grid0.coords t)) s from by rw [cur_eq]; exact (if_neg h0).trans hs.symm]
    iapply (runMain c Set.univ (grid0.coords t) (fun h => h0 ((coord_val t).symm.trans h)) _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t) (iblk m c 8 t) q s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [Hq]; · iexact Hq
    isplitl [Hs]; · iexact Hs
    isplitl [Hg]; · iexact Hg
    iintro ⟨H0, H1, H2, H3, H4, H5, H6, H7, H8, H9, H10, H11, ⟨%q', Hq, %hq'⟩, ⟨%s', Hs, %hs'⟩, Hg⟩
    rw [nxt_eq] at hq' hs'
    isplitl [Hq Hs Hg Hr]
    · isplitl [Hq]
      · iexists q'; isplitl; · iexact Hq
        ipureintro; intro u hu; rw [show u = t from Fin.ext (Nat.succ.inj hu)]; exact hq'
      isplitl [Hs]
      · iexists s'; isplitl; · iexact Hs
        ipureintro; intro u hu; rw [show u = t from Fin.ext (Nat.succ.inj hu)]; exact hs'
      isplitl [Hg]; · iexact Hg
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution terminates with every array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_first m) (hout := inv_last m)

/-- Every weakly fair execution terminates with every array at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Body
end
-- ==== Proof.KernelIdeal.Chunk.lean ====
/- What one block of 512 rows becomes. The kernel quantises a block in sixteen chunks of 32 rows and later
   multiplies the stored codes with the weight in twelve tiles of 512 columns; the functions here name those
   results once, for every chunk and every tile. -/
module

public import proofs.«01_k».proof.Proof.Gen.KernelIdeal.Skeleton
public import Idealize.ShloMosaic.Lib.Pipeline.FrameBody
public import Idealize.ShloMosaic.Lib.ValueIdxCore
public import Idealize.ShloMosaic.Lib.WritesUnit
public import Idealize.ShloMosaic.Lib.VecWindow

@[expose] public section

noncomputable section
namespace Cert.KernelIdeal.Body

open Cert.KernelIdeal Cert.KernelIdeal.Gen
open Idealize.ShloMosaic Idealize.ShloMosaic.ValueIdx

variable {F : FTy → Type} [FloatOps F] [Named F]

/-- A box read at equal offsets reads the same. -/
theorem ld_congr {S : Shape} {e : EltTy} {Val : EltTy → Type} {o o' sz : Fin S.rank → ℕ} (h : o = o') (inb : ∀ a, o a + sz a ≤ S.size a) (inb' : ∀ a, o' a + sz a ≤ S.size a)
    (d : S.Idx → Val e) : View.ld d (Rect.unit (s := S) o sz inb) = View.ld d (Rect.unit (s := S) o' sz inb') := by
  subst h; rfl

/-- The row `1 + s` the normalised rows are multiplied with. -/
def gain (s : Vec F S1x1x1536 .f32) : Vec F S1x1536 .f32 := k0_pay119 s

/-- The codes of one chunk of 32 rows `x`, from the gain row `g` and the shift row `t`. -/
def chunkCodes (x : Vec F S32x1536 .bf16) (g : Vec F S1x1536 .f32) (t : Vec F S1x1x1536 .f32) : Vec F S1x32x1536 .fp8e4m3 :=
  k0_pay233 (k0_pay228 x g t) (k0_pay229 x g t) k0_pay230

/-- The scales of one chunk of 32 rows `x`. -/
def chunkScale (x : Vec F S32x1536 .bf16) (g : Vec F S1x1536 .f32) (t : Vec F S1x1x1536 .f32) : Vec F S32x1 .f32 :=
  k0_pay234 (k0_pay232 (k0_pay229 x g t) k0_pay230)

/-- A chunk of 32 rows lies in the block. -/
theorem inb_rows : ∀ (k : Fin 16) (a : Fin 2), (![32 * k.val, 0] : Fin 2 → ℕ) a + S32x1536.size a ≤ S512x1536.size a := by decide
/-- Rows `32 k … 32 k + 31` of a block. -/
def rows (x : Vec F S512x1536 .bf16) (k : Fin 16) : Vec F S32x1536 .bf16 :=
  View.ld x (Rect.unit (s := S512x1536) ![32 * k.val, 0] S32x1536.size (inb_rows k))

/-- The chunk a row of a block lies in. -/
def chunkOf (r : Fin 512) : Fin 16 := ⟨r.val / 32, by omega⟩
/-- A row's place inside its chunk. -/
def inChunk (r : Fin 512) : Fin 32 := ⟨r.val % 32, by omega⟩

/-- The codes of a whole block of 512 rows from the gain row `g`, chunk by chunk. -/
def codesOf (x : Vec F S512x1536 .bf16) (g : Vec F S1x1536 .f32) (t : Vec F S1x1x1536 .f32) : Vec F S1x512x1536 .fp8e4m3 :=
  fun y => chunkCodes (rows x (chunkOf (y 1))) g t (ix3 (0 : Fin 1) (inChunk (y 1)) (y 2))
/-- The scales of a whole block of 512 rows from the gain row `g`, chunk by chunk. -/
def scaleOf (x : Vec F S512x1536 .bf16) (g : Vec F S1x1536 .f32) (t : Vec F S1x1x1536 .f32) : Vec F S1x512x1 .f32 :=
  fun y => chunkScale (rows x (chunkOf (y 1))) g t (ix2 (inChunk (y 1)) (0 : Fin 1))

/-- The codes of a whole block of 512 rows. -/
def blkCodes (x : Vec F S512x1536 .bf16) (s t : Vec F S1x1x1536 .f32) : Vec F S1x512x1536 .fp8e4m3 := codesOf x (gain s) t
/-- The scales of a whole block of 512 rows. -/
def blkScale (x : Vec F S512x1536 .bf16) (s t : Vec F S1x1x1536 .f32) : Vec F S1x512x1 .f32 := scaleOf x (gain s) t

/-- A tile of 512 columns lies in the weight. -/
theorem inb_colsW : ∀ (n : Fin 12) (a : Fin 2), (![0, 512 * n.val] : Fin 2 → ℕ) a + S1536x512.size a ≤ S1536x6144.size a := by decide
/-- A tile of 512 columns lies in a row of column values. -/
theorem inb_colsB : ∀ (n : Fin 12) (a : Fin 2), (![0, 512 * n.val] : Fin 2 → ℕ) a + S1x512.size a ≤ S1x6144.size a := by decide
/-- Columns `512 n … 512 n + 511` of the weight. -/
def colsW (w : Vec F S1536x6144 .fp8e4m3) (n : Fin 12) : Vec F S1536x512 .fp8e4m3 :=
  View.ld w (Rect.unit (s := S1536x6144) ![0, 512 * n.val] S1536x512.size (inb_colsW n))
/-- Columns `512 n … 512 n + 511` of a row over the outputs. -/
def colsB (b : Vec F S1x6144 .f32) (n : Fin 12) : Vec F S1x512 .f32 :=
  View.ld b (Rect.unit (s := S1x6144) ![0, 512 * n.val] S1x512.size (inb_colsB n))

/-- One tile of 512 columns of the projected block. -/
def tileY (q : Vec F S1x512x1536 .fp8e4m3) (sc : Vec F S1x512x1 .f32) (w : Vec F S1536x6144 .fp8e4m3) (ws b : Vec F S1x6144 .f32) (n : Fin 12) :
    Vec F S512x512 .bf16 :=
  k0_pay237 q sc (colsW w n) (colsB ws n) (colsB b n)

/-- The tile a column lies in. -/
def tileOf (j : Fin 6144) : Fin 12 := ⟨j.val / 512, by omega⟩
/-- A column's place inside its tile. -/
def inTile (j : Fin 6144) : Fin 512 := ⟨j.val % 512, by omega⟩

/-- The projected block, tile by tile. -/
def outY (q : Vec F S1x512x1536 .fp8e4m3) (sc : Vec F S1x512x1 .f32) (w : Vec F S1536x6144 .fp8e4m3) (ws b : Vec F S1x6144 .f32) :
    Vec F S512x6144 .bf16 :=
  fun y => tileY q sc w ws b (tileOf (y 1)) (ix2 (y 0) (inTile (y 1)))

/-- The codes of a block as they leave the kernel. -/
def outCodes (q : Vec F S1x512x1536 .fp8e4m3) : Vec F S512x1536 .fp8e4m3 := k0_pay235 q
/-- The scales of a block as they leave the kernel. -/
def outScale (sc : Vec F S1x512x1 .f32) : Vec F S512x1 .f32 := k0_pay236 sc

/-- A slot lies in the code buffer. -/
theorem inb_slotQ : ∀ (s : Fin 2) (a : Fin 3), (![s.val, 0, 0] : Fin 3 → ℕ) a + S1x512x1536.size a ≤ S2x512x1536.size a := by decide
/-- A slot lies in the scale buffer. -/
theorem inb_slotS : ∀ (s : Fin 2) (a : Fin 3), (![s.val, 0, 0] : Fin 3 → ℕ) a + S1x512x1.size a ≤ S2x512x1.size a := by decide
/-- One of the two slots of the stored codes. -/
def slotQ (s : Fin 2) (d : Vec F S2x512x1536 .fp8e4m3) : Vec F S1x512x1536 .fp8e4m3 :=
  View.ld d (Rect.unit (s := S2x512x1536) ![s.val, 0, 0] S1x512x1536.size (inb_slotQ s))
/-- One of the two slots of the stored scales. -/
def slotS (s : Fin 2) (d : Vec F S2x512x1 .f32) : Vec F S1x512x1 .f32 :=
  View.ld d (Rect.unit (s := S2x512x1) ![s.val, 0, 0] S1x512x1.size (inb_slotS s))

/-- A write of the gain row into its one-row buffer. -/
def gainPiece (s : Vec F S1x1x1536 .f32) : View.Piece (Elt F) S1x1536 .f32 :=
  ⟨Rect.unit (s := S1x1536) ![0, 0] ![1, 1536] inb_S1x1536_S1x1536_0_0, gain s⟩
/-- The gain row as it is loaded back after that write. -/
def storedGain (s : Vec F S1x1x1536 .f32) (L : List (View.Piece (Elt F) S1x1536 .f32)) : Vec F S1x1536 .f32 :=
  (Memref.whole cc0_scratch2 : Memref sig .tc .vmem S1x1536 .f32).view.readCov (gainPiece s :: L)
    (Rect.unit (s := S1x1536) ![0, 0] ![1, 1536] inb_S1x1536_S1x1536_0_0).toLoadRect
/-- The gain row read back is the gain row stored, whatever was stored before. -/
theorem storedGain_eq (s : Vec F S1x1x1536 .f32) (L : List (View.Piece (Elt F) S1x1536 .f32)) : storedGain s L = gain s :=
  View.readCov_full _ _ _ _ _

/-- A row over the features as the body loads it. -/
abbrev rowLd {sp : Space} (v : View sig .tc sp S1x1x1536 .f32) (f : v.ty.Contents (Elt F)) : Vec F S1x1x1536 .f32 :=
  View.readAt (Elt F) v (Rect.unit (s := S1x1x1536) ![0, 0, 0] ![1, 1, 1536] inb_S1x1x1536_S1x1x1536_0_0_0).toLoadRect f
/-- A row loaded whole is what its view reads. -/
theorem rowLd_eq {sp : Space} (v : View sig .tc sp S1x1x1536 .f32) (f : v.ty.Contents (Elt F)) : rowLd v f = v.read (Elt F) f :=
  View.readAt_full _ _ _

/-! ## Reading a list of writes, piece by piece -/

section
variable {Val : EltTy → Type} {sig' : RefSig} {κ' : Kind} {sp' : Space} {e : EltTy}

/-- After the writes `L`, slot `p` reads `G` on its first `32 n` rows. -/
def GoodQ (v : View sig' κ' sp' S2x512x1536 e) (f : v.ty.Contents Val) (L : List (View.Piece Val S2x512x1536 e)) (p : ℕ)
    (G : S1x512x1536.Idx → Val e) (n : ℕ) : Prop :=
  ∀ y : S2x512x1536.Idx, (y 0).val = p → (y 1).val < 32 * n → v.read Val (v.writes Val f L) y = G (ix3 (0 : Fin 1) (y 1) (y 2))

/-- Of no rows nothing is asked. -/
theorem GoodQ.zero (v : View sig' κ' sp' S2x512x1536 e) (f : v.ty.Contents Val) (L : List (View.Piece Val S2x512x1536 e)) (p : ℕ)
    (G : S1x512x1536.Idx → Val e) : GoodQ v f L p G 0 := fun y _ h => absurd h (by omega)

/-- A write of rows `32 n … 32 n + 31` of slot `p` extends what is read by one chunk. -/
theorem GoodQ.cons {v : View sig' κ' sp' S2x512x1536 e} {f : v.ty.Contents Val} {L : List (View.Piece Val S2x512x1536 e)} {p n : ℕ}
    {G : S1x512x1536.Idx → Val e} {off : Fin 3 → ℕ} {inb : ∀ a, off a + S1x32x1536.size a ≤ S2x512x1536.size a}
    {w : S1x32x1536.Idx → Val e} (hoff : off = ![p, 32 * n, 0])
    (hw : ∀ (r : Fin 512) (z : Fin 32) (c : Fin 1536), r.val = 32 * n + z.val → w (ix3 (0 : Fin 1) z c) = G (ix3 (0 : Fin 1) r c))
    (hL : GoodQ v f L p G n) :
    GoodQ v f ((⟨Rect.unit (s := S2x512x1536) off S1x32x1536.size inb, w⟩ : View.Piece Val S2x512x1536 e) :: L) p G (n + 1) := by
  intro y hp hn
  by_cases h : (y 1).val < 32 * n
  · rw [View.read_writes_cons_unit_of_not_mem v f inb w L y hoff (1 : Fin 3) (.inl (by simpa using h))]
    exact hL y hp h
  · have h1 : (y 1).val - 32 * n < 32 := by omega
    rw [View.read_writes_cons_unit_of_mem v f inb w L y (ix3 (0 : Fin 1) (⟨_, h1⟩ : Fin 32) (y 2)) hoff ?_]
    · exact hw _ _ _ (show (y 1).val = 32 * n + ((y 1).val - 32 * n) by omega)
    · intro a
      match a with
      | ⟨0, _⟩ => simpa using hp
      | ⟨1, _⟩ => show (y 1).val = 32 * n + ((y 1).val - 32 * n); omega
      | ⟨2, _⟩ => show (y 2).val = 0 + (y 2).val; omega

/-- A write to the other slot changes nothing that is read of slot `p`. -/
theorem GoodQ.skip {v : View sig' κ' sp' S2x512x1536 e} {f : v.ty.Contents Val} {L : List (View.Piece Val S2x512x1536 e)} {p p' m n : ℕ}
    {G : S1x512x1536.Idx → Val e} {off : Fin 3 → ℕ} {inb : ∀ a, off a + S1x32x1536.size a ≤ S2x512x1536.size a}
    {w : S1x32x1536.Idx → Val e} (hoff : off = ![p', m, 0]) (hne : p' ≠ p) (hL : GoodQ v f L p G n) :
    GoodQ v f ((⟨Rect.unit (s := S2x512x1536) off S1x32x1536.size inb, w⟩ : View.Piece Val S2x512x1536 e) :: L) p G n := by
  intro y hp hn
  rw [View.read_writes_cons_unit_of_not_mem v f inb w L y hoff (0 : Fin 3) ?_]
  · exact hL y hp hn
  · show (y 0).val < p' ∨ p' + 1 ≤ (y 0).val
    omega

/-- After the writes `L`, slot `p` of the scales reads `G` on its first `32 n` rows. -/
def GoodS (v : View sig' κ' sp' S2x512x1 e) (f : v.ty.Contents Val) (L : List (View.Piece Val S2x512x1 e)) (p : ℕ)
    (G : S1x512x1.Idx → Val e) (n : ℕ) : Prop :=
  ∀ y : S2x512x1.Idx, (y 0).val = p → (y 1).val < 32 * n → v.read Val (v.writes Val f L) y = G (ix3 (0 : Fin 1) (y 1) (0 : Fin 1))

/-- Of no rows nothing is asked. -/
theorem GoodS.zero (v : View sig' κ' sp' S2x512x1 e) (f : v.ty.Contents Val) (L : List (View.Piece Val S2x512x1 e)) (p : ℕ)
    (G : S1x512x1.Idx → Val e) : GoodS v f L p G 0 := fun y _ h => absurd h (by omega)

/-- A write of rows `32 n … 32 n + 31` through slot `p`'s own view extends what is read by one chunk. -/
theorem GoodS.cons {v : View sig' κ' sp' S2x512x1 e} {f : v.ty.Contents Val} {L : List (View.Piece Val S2x512x1 e)} {p n : ℕ}
    {G : S1x512x1.Idx → Val e} {inb0 : ∀ a, (![p, 0, 0] : Fin 3 → ℕ) a + (![1, 512, 1] : Fin 3 → ℕ) a ≤ S2x512x1.size a}
    {off : Fin 2 → ℕ} {inb : ∀ a, off a + (![32, 1] : Fin 2 → ℕ) a ≤ S512x1.size a} {h0 hs hl}
    {hR : ((Rect.unit (s := S512x1) off ![32, 1] inb).consLift ![1, 512, 1] h0 hs).shape.numel = (Rect.unit (s := S512x1) off ![32, 1] inb).shape.numel}
    {w : (Rect.unit (s := S512x1) off ![32, 1] inb).shape.Idx → Val e} (hoff : off = ![32 * n, 0])
    (hw : ∀ (r : Fin 512) (z : Fin 32), r.val = 32 * n + z.val → w (ix2 z (0 : Fin 1)) = G (ix3 (0 : Fin 1) r (0 : Fin 1)))
    (hL : GoodS v f L p G n) :
    GoodS v f ((⟨(Rect.unit (s := S2x512x1) ![p, 0, 0] ![1, 512, 1] inb0).within ((Rect.unit (s := S512x1) off ![32, 1] inb).consLift ![1, 512, 1] h0 hs) hl,
      Rect.payAlong hR w⟩ : View.Piece Val S2x512x1 e) :: L) p G (n + 1) := by
  subst hoff
  intro y hp hn
  by_cases h : (y 1).val < 32 * n
  · rw [View.read_writes_cons_miss_of_axis v f _ L y (1 : Fin 3) (32 * n) 32 (Nat.zero_add _) rfl rfl (.inl h)]
    exact hL y hp h
  · have h1 : (y 1).val - 32 * n < 32 := by omega
    have h2 : (y 2).val = 0 := by have := (y 2).isLt; change (y 2).val < 1 at this; omega
    refine (View.read_writes_cons_hit_of_coords v f _ _ L (ix3 (0 : Fin 1) (⟨_, h1⟩ : Fin 32) (0 : Fin 1)) y ?_).trans ?_
    · intro a
      match a with
      | ⟨0, _⟩ => exact hp
      | ⟨1, _⟩ => show (y 1).val = (0 + 32 * n) + 1 * ((y 1).val - 32 * n); omega
      | ⟨2, _⟩ => exact h2
    · refine (Rect.payAlong_consLift _ _ _ _ w hR _ (ix2 (⟨_, h1⟩ : Fin 32) (0 : Fin 1)) ?_).trans ?_
      · intro i
        match i with
        | ⟨0, _⟩ => rfl
        | ⟨1, _⟩ => rfl
      · exact hw _ _ (show (y 1).val = 32 * n + ((y 1).val - 32 * n) by omega)

/-- A write to the other slot changes nothing that is read of slot `p`. -/
theorem GoodS.skip {v : View sig' κ' sp' S2x512x1 e} {f : v.ty.Contents Val} {L : List (View.Piece Val S2x512x1 e)} {p p' n : ℕ}
    {G : S1x512x1.Idx → Val e} {inb0 : ∀ a, (![p', 0, 0] : Fin 3 → ℕ) a + (![1, 512, 1] : Fin 3 → ℕ) a ≤ S2x512x1.size a}
    {off : Fin 2 → ℕ} {inb : ∀ a, off a + (![32, 1] : Fin 2 → ℕ) a ≤ S512x1.size a} {h0 hs hl} {w}
    (hne : p' ≠ p) (hL : GoodS v f L p G n) :
    GoodS v f ((⟨(Rect.unit (s := S2x512x1) ![p', 0, 0] ![1, 512, 1] inb0).within ((Rect.unit (s := S512x1) off ![32, 1] inb).consLift ![1, 512, 1] h0 hs) hl,
      w⟩ : View.Piece Val S2x512x1 e) :: L) p G n := by
  intro y hp hn
  rw [View.read_writes_cons_miss_of_axis v f _ L y (0 : Fin 3) p' 1 (Nat.add_zero _) rfl rfl (by omega)]
  exact hL y hp hn

/-- After the writes `L`, the output block reads `G` on its first `512 n` columns. -/
def GoodY (v : View sig' κ' sp' S512x6144 e) (f : v.ty.Contents Val) (L : List (View.Piece Val S512x6144 e))
    (G : S512x6144.Idx → Val e) (n : ℕ) : Prop :=
  ∀ y : S512x6144.Idx, (y 1).val < 512 * n → v.read Val (v.writes Val f L) y = G y

/-- Of no columns nothing is asked. -/
theorem GoodY.zero (v : View sig' κ' sp' S512x6144 e) (f : v.ty.Contents Val) (L : List (View.Piece Val S512x6144 e))
    (G : S512x6144.Idx → Val e) : GoodY v f L G 0 := fun y h => absurd h (by omega)

/-- A write of columns `512 n … 512 n + 511` extends what is read by one tile. -/
theorem GoodY.cons {v : View sig' κ' sp' S512x6144 e} {f : v.ty.Contents Val} {L : List (View.Piece Val S512x6144 e)} {n : ℕ}
    {G : S512x6144.Idx → Val e} {off : Fin 2 → ℕ} {inb : ∀ a, off a + S512x512.size a ≤ S512x6144.size a}
    {w : S512x512.Idx → Val e} (hoff : off = ![0, 512 * n])
    (hw : ∀ (r : Fin 512) (c : Fin 6144) (z : Fin 512), c.val = 512 * n + z.val → w (ix2 r z) = G (ix2 r c))
    (hL : GoodY v f L G n) :
    GoodY v f ((⟨Rect.unit (s := S512x6144) off S512x512.size inb, w⟩ : View.Piece Val S512x6144 e) :: L) G (n + 1) := by
  intro y hn
  by_cases h : (y 1).val < 512 * n
  · rw [View.read_writes_cons_unit_of_not_mem v f inb w L y hoff (1 : Fin 2) (.inl (by simpa using h))]
    exact hL y h
  · have h1 : (y 1).val - 512 * n < 512 := by omega
    rw [View.read_writes_cons_unit_of_mem v f inb w L y (ix2 (y 0) (⟨_, h1⟩ : Fin 512)) hoff ?_]
    · exact (hw _ _ _ (show (y 1).val = 512 * n + ((y 1).val - 512 * n) by omega)).trans (congrArg G (eq_ix2 y).symm)
    · intro a
      match a with
      | ⟨0, _⟩ => show (y 0).val = 0 + (y 0).val; omega
      | ⟨1, _⟩ => show (y 1).val = 512 * n + ((y 1).val - 512 * n); omega
end

/-- A chunk's codes are the block's codes on the chunk's rows. -/
theorem codes_row {x : Vec F S512x1536 .bf16} {g : Vec F S1x1536 .f32} {t : Vec F S1x1x1536 .f32} {n : ℕ} (hn : n < 16) (r : Fin 512) (z : Fin 32) (c : Fin 1536)
    (h : r.val = 32 * n + z.val) :
    chunkCodes (rows x ⟨n, hn⟩) g t (ix3 (0 : Fin 1) z c) = codesOf x g t (ix3 (0 : Fin 1) r c) := by
  have hk : chunkOf r = ⟨n, hn⟩ := Fin.ext (by have := z.isLt; show r.val / 32 = n; omega)
  have hz : inChunk r = z := Fin.ext (by have := z.isLt; show r.val % 32 = z.val; omega)
  show _ = chunkCodes (rows x (chunkOf r)) g t (ix3 (0 : Fin 1) (inChunk r) c)
  rw [hk, hz]

/-- A chunk's scales are the block's scales on the chunk's rows. -/
theorem scale_row {x : Vec F S512x1536 .bf16} {g : Vec F S1x1536 .f32} {t : Vec F S1x1x1536 .f32} {n : ℕ} (hn : n < 16) (r : Fin 512) (z : Fin 32)
    (h : r.val = 32 * n + z.val) :
    chunkScale (rows x ⟨n, hn⟩) g t (ix2 z (0 : Fin 1)) = scaleOf x g t (ix3 (0 : Fin 1) r (0 : Fin 1)) := by
  have hk : chunkOf r = ⟨n, hn⟩ := Fin.ext (by have := z.isLt; show r.val / 32 = n; omega)
  have hz : inChunk r = z := Fin.ext (by have := z.isLt; show r.val % 32 = z.val; omega)
  show _ = chunkScale (rows x (chunkOf r)) g t (ix2 (inChunk r) (0 : Fin 1))
  rw [hk, hz]

/-- A tile is the projected block on the tile's columns. -/
theorem tile_col {q : Vec F S1x512x1536 .fp8e4m3} {sc : Vec F S1x512x1 .f32} {w : Vec F S1536x6144 .fp8e4m3} {ws b : Vec F S1x6144 .f32} {n : ℕ} (hn : n < 12)
    (r : Fin 512) (c : Fin 6144) (z : Fin 512) (h : c.val = 512 * n + z.val) :
    tileY q sc w ws b ⟨n, hn⟩ (ix2 r z) = outY q sc w ws b (ix2 r c) := by
  have hk : tileOf c = ⟨n, hn⟩ := Fin.ext (by have := z.isLt; show c.val / 512 = n; omega)
  have hz : inTile c = z := Fin.ext (by have := z.isLt; show c.val % 512 = z.val; omega)
  show _ = tileY q sc w ws b (tileOf c) (ix2 r (inTile c))
  rw [hk, hz]

/-! ## The three steps, on the kernel's own payloads -/

section
variable {sig' : RefSig} {κ' : Kind} {sp' : Space}

/-- Storing the codes of chunk `n` takes a slot from `n` chunks to `n + 1`. -/
theorem GoodQ.chunk {v : View sig' κ' sp' S2x512x1536 .fp8e4m3} {f : v.ty.Contents (Elt F)} {L : List (View.Piece (Elt F) S2x512x1536 .fp8e4m3)} {p n : ℕ}
    {x : Vec F S512x1536 .bf16} {g : Vec F S1x1536 .f32} {t : Vec F S1x1x1536 .f32} {off : Fin 3 → ℕ} {inb : ∀ a, off a + S1x32x1536.size a ≤ S2x512x1536.size a}
    {w : Vec F S1x32x1536 .fp8e4m3} (hoff : off = ![p, 32 * n, 0]) (hn : n < 16)
    (hw : w = chunkCodes (rows x ⟨n, hn⟩) g t)
    (hL : GoodQ v f L p (codesOf x g t) n) :
    GoodQ v f ((⟨Rect.unit (s := S2x512x1536) off S1x32x1536.size inb, w⟩ : View.Piece (Elt F) S2x512x1536 .fp8e4m3) :: L) p (codesOf x g t) (n + 1) :=
  GoodQ.cons hoff (fun r z c h => by rw [hw]; exact codes_row hn r z c h) hL

/-- Storing the scales of chunk `n` takes a slot from `n` chunks to `n + 1`. -/
theorem GoodS.chunk {v : View sig' κ' sp' S2x512x1 .f32} {f : v.ty.Contents (Elt F)} {L : List (View.Piece (Elt F) S2x512x1 .f32)} {p n : ℕ}
    {x : Vec F S512x1536 .bf16} {g : Vec F S1x1536 .f32} {t : Vec F S1x1x1536 .f32} {inb0 : ∀ a, (![p, 0, 0] : Fin 3 → ℕ) a + (![1, 512, 1] : Fin 3 → ℕ) a ≤ S2x512x1.size a}
    {off : Fin 2 → ℕ} {inb : ∀ a, off a + (![32, 1] : Fin 2 → ℕ) a ≤ S512x1.size a} {h0 hs hl}
    {hR : ((Rect.unit (s := S512x1) off ![32, 1] inb).consLift ![1, 512, 1] h0 hs).shape.numel = (Rect.unit (s := S512x1) off ![32, 1] inb).shape.numel}
    {w : Vec F S32x1 .f32} (hoff : off = ![32 * n, 0]) (hn : n < 16)
    (hw : w = chunkScale (rows x ⟨n, hn⟩) g t)
    (hL : GoodS v f L p (scaleOf x g t) n) :
    GoodS v f ((⟨(Rect.unit (s := S2x512x1) ![p, 0, 0] ![1, 512, 1] inb0).within ((Rect.unit (s := S512x1) off ![32, 1] inb).consLift ![1, 512, 1] h0 hs) hl,
      Rect.payAlong (r := Rect.unit (s := S512x1) off ![32, 1] inb) hR w⟩ : View.Piece (Elt F) S2x512x1 .f32) :: L) p (scaleOf x g t) (n + 1) :=
  GoodS.cons hoff (fun r z h => by rw [hw]; exact scale_row hn r z h) hL

/-- Storing tile `n` takes the output block from `n` tiles to `n + 1`. -/
theorem GoodY.tile {v : View sig' κ' sp' S512x6144 .bf16} {f : v.ty.Contents (Elt F)} {L : List (View.Piece (Elt F) S512x6144 .bf16)} {n : ℕ}
    {q : Vec F S1x512x1536 .fp8e4m3} {sc : Vec F S1x512x1 .f32} {W : Vec F S1536x6144 .fp8e4m3} {ws b : Vec F S1x6144 .f32}
    {off : Fin 2 → ℕ} {inb : ∀ a, off a + S512x512.size a ≤ S512x6144.size a}
    {w : Vec F S512x512 .bf16} (hoff : off = ![0, 512 * n]) (hn : n < 12)
    (hw : w = tileY q sc W ws b ⟨n, hn⟩)
    (hL : GoodY v f L (outY q sc W ws b) n) :
    GoodY v f ((⟨Rect.unit (s := S512x6144) off S512x512.size inb, w⟩ : View.Piece (Elt F) S512x6144 .bf16) :: L) (outY q sc W ws b) (n + 1) :=
  GoodY.cons hoff (fun r c z h => by rw [hw]; exact tile_col hn r c z h) hL

/-- Sixteen chunks make the slot. -/
theorem GoodQ.slot {v : View sig' κ' sp' S2x512x1536 .fp8e4m3} {f : v.ty.Contents (Elt F)} {L : List (View.Piece (Elt F) S2x512x1536 .fp8e4m3)} {p : ℕ}
    {G : Vec F S1x512x1536 .fp8e4m3} (h : GoodQ v f L p G 16) (s : Fin 2) (hs : s.val = p) : slotQ s (v.read (Elt F) (v.writes (Elt F) f L)) = G := by
  subst hs
  funext y
  have h0 : (y 0).val = 0 := by have := (y 0).isLt; change (y 0).val < 1 at this; omega
  have h1 : (y 1).val < 512 := (y 1).isLt
  refine (h ((Rect.unit (s := S2x512x1536) ![s.val, 0, 0] S1x512x1536.size (inb_slotQ s)).idx y) ?_ ?_).trans (congrArg G ?_)
  · show s.val + 1 * (y 0).val = s.val; omega
  · show 0 + 1 * (y 1).val < 32 * 16; omega
  · funext a
    match a with
    | ⟨0, _⟩ => exact Fin.ext h0.symm
    | ⟨1, _⟩ => exact Fin.ext (show 0 + 1 * (y 1).val = (y 1).val by omega)
    | ⟨2, _⟩ => exact Fin.ext (show 0 + 1 * (y 2).val = (y 2).val by omega)

/-- Sixteen chunks make the slot. -/
theorem GoodS.slot {v : View sig' κ' sp' S2x512x1 .f32} {f : v.ty.Contents (Elt F)} {L : List (View.Piece (Elt F) S2x512x1 .f32)} {p : ℕ}
    {G : Vec F S1x512x1 .f32} (h : GoodS v f L p G 16) (s : Fin 2) (hs : s.val = p) : slotS s (v.read (Elt F) (v.writes (Elt F) f L)) = G := by
  subst hs
  funext y
  have h0 : (y 0).val = 0 := by have := (y 0).isLt; change (y 0).val < 1 at this; omega
  have h2 : (y 2).val = 0 := by have := (y 2).isLt; change (y 2).val < 1 at this; omega
  have h1 : (y 1).val < 512 := (y 1).isLt
  refine (h ((Rect.unit (s := S2x512x1) ![s.val, 0, 0] S1x512x1.size (inb_slotS s)).idx y) ?_ ?_).trans (congrArg G ?_)
  · show s.val + 1 * (y 0).val = s.val; omega
  · show 0 + 1 * (y 1).val < 32 * 16; omega
  · funext a
    match a with
    | ⟨0, _⟩ => exact Fin.ext h0.symm
    | ⟨1, _⟩ => exact Fin.ext (show 0 + 1 * (y 1).val = (y 1).val by omega)
    | ⟨2, _⟩ => exact Fin.ext h2.symm

/-- The slot's codes, the gain row and the shift row told apart. -/
theorem GoodQ.block {v : View sig' κ' sp' S2x512x1536 .fp8e4m3} {f : v.ty.Contents (Elt F)} {L : List (View.Piece (Elt F) S2x512x1536 .fp8e4m3)} {p : ℕ}
    {x : Vec F S512x1536 .bf16} {s s' t t' : Vec F S1x1x1536 .f32} {L' : List (View.Piece (Elt F) S1x1536 .f32)} (i : Fin 2) (hi : i.val = p)
    (h : GoodQ v f L p (codesOf x (storedGain s' L') t') 16) (hs : s' = s) (ht : t' = t) :
    slotQ i (v.read (Elt F) (v.writes (Elt F) f L)) = blkCodes x s t := by
  subst hs ht; rw [storedGain_eq] at h; exact h.slot i hi
/-- The slot's scales, the gain row and the shift row told apart. -/
theorem GoodS.block {v : View sig' κ' sp' S2x512x1 .f32} {f : v.ty.Contents (Elt F)} {L : List (View.Piece (Elt F) S2x512x1 .f32)} {p : ℕ}
    {x : Vec F S512x1536 .bf16} {s s' t t' : Vec F S1x1x1536 .f32} {L' : List (View.Piece (Elt F) S1x1536 .f32)} (i : Fin 2) (hi : i.val = p)
    (h : GoodS v f L p (scaleOf x (storedGain s' L') t') 16) (hs : s' = s) (ht : t' = t) :
    slotS i (v.read (Elt F) (v.writes (Elt F) f L)) = blkScale x s t := by
  subst hs ht; rw [storedGain_eq] at h; exact h.slot i hi

/-- Twelve tiles make the output block. -/
theorem GoodY.whole {v : View sig' κ' sp' S512x6144 .bf16} {f : v.ty.Contents (Elt F)} {L : List (View.Piece (Elt F) S512x6144 .bf16)}
    {G : Vec F S512x6144 .bf16} (h : GoodY v f L G 12) : v.read (Elt F) (v.writes (Elt F) f L) = G :=
  funext fun y => h y (show (y 1).val < 6144 from (y 1).isLt)
end

end Cert.KernelIdeal.Body
end
-- ==== Proof.KernelIdeal.Slots.lean ====
/- Which slot of the two-slot buffers the kernel's body reads and which it writes at a point of the grid, with the
   offsets of its accesses there. -/
module

public import proofs.«01_k».proof.Proof.Gen.KernelIdeal.Frame
public import proofs.«01_k».proof.Proof.KernelIdeal.Chunk
public import Idealize.ShloMosaic.Lib.VecWindow
public import Idealize.ShloMosaic.Lib.Tactic

@[expose] public section

set_option maxRecDepth 16384
noncomputable section
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Where the body's accesses to the two-slot buffers lie: slot `p` the one written, slot `q` the one read. -/
theorem offs (i : grid0.Coords) (p q : ℕ) (hp : 1 - (i 0).val % 2 = p) (hq : (i 0).val % 2 = q) :
    k0_off1 i = ![p, 0, 0]
    ∧ k0_off2 i = ![p, 0, 0]
    ∧ k0_off3 i = ![p, 0, 0]
    ∧ k0_off4 i = ![p, 32, 0]
    ∧ k0_off5 i = ![p, 64, 0]
    ∧ k0_off6 i = ![p, 96, 0]
    ∧ k0_off7 i = ![p, 128, 0]
    ∧ k0_off8 i = ![p, 160, 0]
    ∧ k0_off9 i = ![p, 192, 0]
    ∧ k0_off10 i = ![p, 224, 0]
    ∧ k0_off11 i = ![p, 256, 0]
    ∧ k0_off12 i = ![p, 288, 0]
    ∧ k0_off13 i = ![p, 320, 0]
    ∧ k0_off14 i = ![p, 352, 0]
    ∧ k0_off15 i = ![p, 384, 0]
    ∧ k0_off16 i = ![p, 416, 0]
    ∧ k0_off17 i = ![p, 448, 0]
    ∧ k0_off18 i = ![p, 480, 0]
    ∧ k0_off19 i = ![q, 0, 0]
    ∧ k0_off20 i = ![q, 0, 0] := by
  subst hp hq
  have h32 : (i 0).val < 32 := (i 0).isLt
  unfold k0_off1 k0_off2 k0_off3 k0_off4 k0_off5 k0_off6 k0_off7 k0_off8 k0_off9 k0_off10 k0_off11 k0_off12 k0_off13 k0_off14 k0_off15 k0_off16 k0_off17 k0_off18 k0_off19 k0_off20
  generalize (i 0).val = j at *
  refine ⟨?_, ?_, ?_, ?_, ?_, ?_, ?_, ?_, ?_, ?_, ?_, ?_, ?_, ?_, ?_, ?_, ?_, ?_, ?_, ?_⟩ <;> (interval_cases j <;> rfl)

/-- The written slot's view of the scales, with its place spelt out. -/
theorem slotView (i : grid0.Coords) (o : Fin 3 → ℕ) (ho : k0_off3 i = o) (inb) (inb' : ∀ a, o a + S1x512x1.size a ≤ S2x512x1.size a) (h) (h') (hq) (hq') :
    ((Memref.whole cc0_scratch1 : Memref sig .tc .vmem S2x512x1 .f32).slice (Rect.unit (s := S2x512x1) (k0_off3 i) S1x512x1.size inb) h).squeeze S512x1 hq
      = ((Memref.whole cc0_scratch1 : Memref sig .tc .vmem S2x512x1 .f32).slice (Rect.unit (s := S2x512x1) o S1x512x1.size inb') h').squeeze S512x1 hq' := by
  subst ho; rfl

/-- The prologue's condition: it holds at point 0 alone. -/
theorem cond_first (i : grid0.Coords) (h : (i 0).val = 0) :
    (Scalar.cmpi .ne (Scalar.extui (Scalar.cmpi .eq (BitVec.ofNat 32 (i 0).val) 0#32) : BitVec 32) 0#32 = 1#1) := by
  rw [h]; decide
/-- Past the first point the prologue's condition is false. -/
theorem cond_later (i : grid0.Coords) (h : (i 0).val ≠ 0) :
    ¬ (Scalar.cmpi .ne (Scalar.extui (Scalar.cmpi .eq (BitVec.ofNat 32 (i 0).val) 0#32) : BitVec 32) 0#32 = 1#1) := by
  have h32 : (i 0).val < 32 := (i 0).isLt
  generalize (i 0).val = j at *
  interval_cases j <;> first | (exfalso; omega) | decide

/-- The slot that holds the point's own block, and the one the next block goes into. -/
def cur (i : grid0.Coords) : Fin 2 := ⟨(i 0).val % 2, by omega⟩
def nxt (i : grid0.Coords) : Fin 2 := ⟨1 - (i 0).val % 2, by omega⟩

/-- The codes a point loads are those of its current slot. -/
theorem readQ (i : grid0.Coords) (d : Vec F S2x512x1536 .fp8e4m3) :
    View.ld d (Rect.unit (s := S2x512x1536) (k0_off19 i) S1x512x1536.size (k0_off19_inb i)) = slotQ (cur i) d := by
  have h : k0_off19 i = ![(cur i).val, 0, 0] := by
    obtain ⟨-, -, -, -, -, -, -, -, -, -, -, -, -, -, -, -, -, -, h, -⟩ := offs i _ _ rfl rfl
    exact h
  exact ld_congr h _ _ d
/-- The scales a point loads are those of its current slot. -/
theorem readS (i : grid0.Coords) (d : Vec F S2x512x1 .f32) :
    View.ld d (Rect.unit (s := S2x512x1) (k0_off20 i) S1x512x1.size (k0_off20_inb i)) = slotS (cur i) d := by
  have h : k0_off20 i = ![(cur i).val, 0, 0] := by
    obtain ⟨-, -, -, -, -, -, -, -, -, -, -, -, -, -, -, -, -, -, -, h⟩ := offs i _ _ rfl rfl
    exact h
  exact ld_congr h _ _ d

end Cert.KernelIdeal.Body
end
-- ==== Proof.KernelIdeal.Points.lean ====
/- The kernel's body, run symbolically at a point of its grid after the first. At point `i` slot `i mod 2` of the
   two-slot buffers holds the quantised block `i`; the body quantises the next block into the other slot and
   projects the stored one. -/
module

public import proofs.«01_k».proof.Proof.Gen.KernelIdeal.Frame
public import proofs.«01_k».proof.Proof.KernelIdeal.Slots
public import Idealize.ShloMosaic.Lib.VecWindow
public import Idealize.ShloMosaic.Lib.Tactic

@[expose] public section

set_option maxRecDepth 16384
noncomputable section
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
set_option sl_exec.squeezeSlice true in
/-- At every later point the body leaves the projection of the stored block in the output buffers, and the next block
    quantised in the other slot. -/
theorem runMain (c : Dev nD) (E : Set ℕ) (i : grid0.Coords) (hi : (i 0).val ≠ 0)
    (arg1 : Memref sig .tc .vmem S512x1536 .bf16) (harg1 : arg1.IsWhole)
    (arg2 : Memref sig .tc .vmem S512x1536 .bf16) (harg2 : arg2.IsWhole)
    (arg3 : Memref sig .tc .vmem S1x1x1536 .f32) (harg3 : arg3.IsWhole)
    (arg4 : Memref sig .tc .vmem S1x1x1536 .f32) (harg4 : arg4.IsWhole)
    (arg5 : Memref sig .tc .vmem S1x1x1536 .f32) (harg5 : arg5.IsWhole)
    (arg6 : Memref sig .tc .vmem S1x1x1536 .f32) (harg6 : arg6.IsWhole)
    (arg7 : Memref sig .tc .vmem S1536x6144 .fp8e4m3) (harg7 : arg7.IsWhole)
    (arg8 : Memref sig .tc .vmem S1x6144 .f32) (harg8 : arg8.IsWhole)
    (arg9 : Memref sig .tc .vmem S1x6144 .f32) (harg9 : arg9.IsWhole)
    (arg10 : Memref sig .tc .vmem S512x6144 .bf16) (harg10 : arg10.IsWhole)
    (arg11 : Memref sig .tc .vmem S512x1536 .fp8e4m3) (harg11 : arg11.IsWhole)
    (arg12 : Memref sig .tc .vmem S512x1 .f32) (harg12 : arg12.IsWhole)
    (x1 : Vec F S512x1536 .bf16) (x2 : Vec F S512x1536 .bf16) (x3 : Vec F S1x1x1536 .f32) (x4 : Vec F S1x1x1536 .f32) (x5 : Vec F S1x1x1536 .f32) (x6 : Vec F S1x1x1536 .f32) (x7 : Vec F S1536x6144 .fp8e4m3) (x8 : Vec F S1x6144 .f32) (x9 : Vec F S1x6144 .f32) (d13 : Vec F S2x512x1536 .fp8e4m3) (d14 : Vec F S2x512x1 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ (∃ d, owns (c : Thread nD τ) arg10 fullShare d) ∗ (∃ d, owns (c : Thread nD τ) arg11 fullShare d) ∗ (∃ d, owns (c : Thread nD τ) arg12 fullShare d)
      ∗ owns (c : Thread nD τ) (Memref.whole cc0_scratch0) fullShare d13
      ∗ owns (c : Thread nD τ) (Memref.whole cc0_scratch1) fullShare d14
      ∗ (∃ d, owns (c : Thread nD τ) (Memref.whole cc0_scratch2) fullShare d)
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare (outY (slotQ (cur i) d13) (slotS (cur i) d14) x7 x8 x9)
          ∗ owns (c : Thread nD τ) arg11 fullShare (outCodes (slotQ (cur i) d13))
          ∗ owns (c : Thread nD τ) arg12 fullShare (outScale (slotS (cur i) d14))
          ∗ (∃ d, owns (c : Thread nD τ) (Memref.whole cc0_scratch0) fullShare d ∗ ⌜slotQ (nxt i) d = blkCodes x2 x5 x6⌝)
          ∗ (∃ d, owns (c : Thread nD τ) (Memref.whole cc0_scratch1) fullShare d ∗ ⌜slotS (nxt i) d = blkScale x2 x5 x6⌝)
          ∗ (∃ d, owns (c : Thread nD τ) (Memref.whole cc0_scratch2) fullShare d)) -∗ K ⟨⟩))
      ⊢ wp frame (wpE (defs₀ (F := F)) Variants.none c none) E (cc0_adaln_linear i arg1 harg1 arg2 harg2 arg3 harg3 arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _)) K := by
  simp only [cc0_adaln_linear_eq_skeleton]; unfold cc0_adaln_linear_skel
  simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
  unfold k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel
  simp only [dif_neg (cond_later i hi)]
  have hpar : (1 - (i 0).val % 2 = 1 ∧ (i 0).val % 2 = 0) ∨ (1 - (i 0).val % 2 = 0 ∧ (i 0).val % 2 = 1) := by omega
  rcases hpar with ⟨hp, hq⟩ | ⟨hp, hq⟩
  all_goals
    obtain ⟨o1, o2, o3, o4, o5, o6, o7, o8, o9, o10, o11, o12, o13, o14, o15, o16, o17, o18, o19, o20⟩ := offs i _ _ hp hq
    simp only [slotView i _ o3 _ (by decide) _ (fun _ => rfl) _ squeezes_S1x512x1_S512x1]
    letI : ClosedOff (k0_off1 i) := ⟨_, o1⟩
    letI : ClosedOff (k0_off2 i) := ⟨_, o2⟩
    letI : ClosedOff (k0_off3 i) := ⟨_, o3⟩
    letI : ClosedOff (k0_off4 i) := ⟨_, o4⟩
    letI : ClosedOff (k0_off5 i) := ⟨_, o5⟩
    letI : ClosedOff (k0_off6 i) := ⟨_, o6⟩
    letI : ClosedOff (k0_off7 i) := ⟨_, o7⟩
    letI : ClosedOff (k0_off8 i) := ⟨_, o8⟩
    letI : ClosedOff (k0_off9 i) := ⟨_, o9⟩
    letI : ClosedOff (k0_off10 i) := ⟨_, o10⟩
    letI : ClosedOff (k0_off11 i) := ⟨_, o11⟩
    letI : ClosedOff (k0_off12 i) := ⟨_, o12⟩
    letI : ClosedOff (k0_off13 i) := ⟨_, o13⟩
    letI : ClosedOff (k0_off14 i) := ⟨_, o14⟩
    letI : ClosedOff (k0_off15 i) := ⟨_, o15⟩
    letI : ClosedOff (k0_off16 i) := ⟨_, o16⟩
    letI : ClosedOff (k0_off17 i) := ⟨_, o17⟩
    letI : ClosedOff (k0_off18 i) := ⟨_, o18⟩
    letI : ClosedOff (k0_off19 i) := ⟨_, o19⟩
    letI : ClosedOff (k0_off20 i) := ⟨_, o20⟩
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, Hk⟩
    subst hf1 hf2 hf3 hf4 hf5 hf6 hf7 hf8 hf9 hf13 hf14
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    rw [← readQ i, ← readS i]
    isplitl [H10]
    · iexists _; isplitr
      swap; · iexact H10
      ipureintro
      refine GoodY.whole ?_
      iterate 12 refine GoodY.tile (by rfl) (by decide) (by rfl) ?_
      exact GoodY.zero _ _ _ _
    isplitl [H11]
    · iexists _; isplitr
      swap; · iexact H11
      ipureintro
      exact View.read_writes_full _ _ _ _ _
    isplitl [H12]
    · iexists _; isplitr
      swap; · iexact H12
      ipureintro
      exact View.read_writes_full _ _ _ _ _
    isplitl [H13]
    · iexists _; isplitl
      · iexists _; isplitr
        swap; · iexact H13
        ipureintro; rfl
      ipureintro
      refine GoodQ.block (s := arg5.view.read (Elt F) f5) (t := arg6.view.read (Elt F) f6) (s' := rowLd arg5.view f5) (t' := rowLd arg6.view f6) (L' := []) (nxt i) hp ?_ (rowLd_eq _ _) (rowLd_eq _ _)
      iterate 16 refine GoodQ.chunk ClosedOff.eq (by decide) (by dsimp only; rfl) ?_
      exact GoodQ.zero _ _ _ _ _
    isplitl [H14]
    · iexists _; isplitl
      · iexists _; isplitr
        swap; · iexact H14
        ipureintro; rfl
      ipureintro
      refine GoodS.block (s := arg5.view.read (Elt F) f5) (t := arg6.view.read (Elt F) f6) (s' := rowLd arg5.view f5) (t' := rowLd arg6.view f6) (L' := []) (nxt i) hp ?_ (rowLd_eq _ _) (rowLd_eq _ _)
      iterate 16 refine GoodS.chunk (by rfl) (by decide) (by dsimp only; rfl) ?_
      exact GoodS.zero _ _ _ _ _
    iexists _; iexists _; isplitr
    swap; · iexact H15
    ipureintro; rfl

end Cert.KernelIdeal.Body
end
-- ==== Proof.KernelIdeal.First.lean ====
/- The kernel's body, run symbolically at the first point of its grid: it first quantises block 0 into slot 0, then
   goes on as at every point. -/
module

public import proofs.«01_k».proof.Proof.Gen.KernelIdeal.Frame
public import proofs.«01_k».proof.Proof.KernelIdeal.Slots
public import Idealize.ShloMosaic.Lib.VecWindow
public import Idealize.ShloMosaic.Lib.Tactic

@[expose] public section

set_option maxRecDepth 16384
noncomputable section
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
set_option sl_exec.squeezeSlice true in
/-- At point 0 the body leaves the projection of the block it quantised into slot 0 in the output buffers, and the next block
    quantised in the other slot. -/
theorem runFirst (c : Dev nD) (E : Set ℕ) (i : grid0.Coords) (hi : (i 0).val = 0)
    (arg1 : Memref sig .tc .vmem S512x1536 .bf16) (harg1 : arg1.IsWhole)
    (arg2 : Memref sig .tc .vmem S512x1536 .bf16) (harg2 : arg2.IsWhole)
    (arg3 : Memref sig .tc .vmem S1x1x1536 .f32) (harg3 : arg3.IsWhole)
    (arg4 : Memref sig .tc .vmem S1x1x1536 .f32) (harg4 : arg4.IsWhole)
    (arg5 : Memref sig .tc .vmem S1x1x1536 .f32) (harg5 : arg5.IsWhole)
    (arg6 : Memref sig .tc .vmem S1x1x1536 .f32) (harg6 : arg6.IsWhole)
    (arg7 : Memref sig .tc .vmem S1536x6144 .fp8e4m3) (harg7 : arg7.IsWhole)
    (arg8 : Memref sig .tc .vmem S1x6144 .f32) (harg8 : arg8.IsWhole)
    (arg9 : Memref sig .tc .vmem S1x6144 .f32) (harg9 : arg9.IsWhole)
    (arg10 : Memref sig .tc .vmem S512x6144 .bf16) (harg10 : arg10.IsWhole)
    (arg11 : Memref sig .tc .vmem S512x1536 .fp8e4m3) (harg11 : arg11.IsWhole)
    (arg12 : Memref sig .tc .vmem S512x1 .f32) (harg12 : arg12.IsWhole)
    (x1 : Vec F S512x1536 .bf16) (x2 : Vec F S512x1536 .bf16) (x3 : Vec F S1x1x1536 .f32) (x4 : Vec F S1x1x1536 .f32) (x5 : Vec F S1x1x1536 .f32) (x6 : Vec F S1x1x1536 .f32) (x7 : Vec F S1536x6144 .fp8e4m3) (x8 : Vec F S1x6144 .f32) (x9 : Vec F S1x6144 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ (∃ d, owns (c : Thread nD τ) arg10 fullShare d) ∗ (∃ d, owns (c : Thread nD τ) arg11 fullShare d) ∗ (∃ d, owns (c : Thread nD τ) arg12 fullShare d)
      ∗ (∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare (outY (blkCodes x1 x3 x4) (blkScale x1 x3 x4) x7 x8 x9)
          ∗ owns (c : Thread nD τ) arg11 fullShare (outCodes (blkCodes x1 x3 x4))
          ∗ owns (c : Thread nD τ) arg12 fullShare (outScale (blkScale x1 x3 x4))
          ∗ (∃ d, owns (c : Thread nD τ) (Memref.whole cc0_scratch0) fullShare d ∗ ⌜slotQ (nxt i) d = blkCodes x2 x5 x6⌝)
          ∗ (∃ d, owns (c : Thread nD τ) (Memref.whole cc0_scratch1) fullShare d ∗ ⌜slotS (nxt i) d = blkScale x2 x5 x6⌝)
          ∗ (∃ d, owns (c : Thread nD τ) (Memref.whole cc0_scratch2) fullShare d)) -∗ K ⟨⟩))
      ⊢ wp frame (wpE (defs₀ (F := F)) Variants.none c none) E (cc0_adaln_linear i arg1 harg1 arg2 harg2 arg3 harg3 arg4 harg4 arg5 harg5 arg6 harg6 arg7 harg7 arg8 harg8 arg9 harg9 arg10 harg10 arg11 harg11 arg12 harg12 (Memref.whole cc0_scratch0) (Memref.isWhole_whole _) (Memref.whole cc0_scratch1) (Memref.isWhole_whole _) (Memref.whole cc0_scratch2) (Memref.isWhole_whole _)) K := by
  simp only [cc0_adaln_linear_eq_skeleton]; unfold cc0_adaln_linear_skel
  simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
  unfold k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel
  simp only [dif_pos (cond_first i hi)]
  simp only [k0_part33_eq_skeleton]; unfold k0_part33_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel
  have hp : 1 - (i 0).val % 2 = 1 := by omega
  have hq : (i 0).val % 2 = 0 := by omega
  obtain ⟨o1, o2, o3, o4, o5, o6, o7, o8, o9, o10, o11, o12, o13, o14, o15, o16, o17, o18, o19, o20⟩ := offs i _ _ hp hq
  simp only [slotView i _ o3 _ (by decide) _ (fun _ => rfl) _ squeezes_S1x512x1_S512x1]
  letI : ClosedOff (k0_off1 i) := ⟨_, o1⟩
  letI : ClosedOff (k0_off2 i) := ⟨_, o2⟩
  letI : ClosedOff (k0_off3 i) := ⟨_, o3⟩
  letI : ClosedOff (k0_off4 i) := ⟨_, o4⟩
  letI : ClosedOff (k0_off5 i) := ⟨_, o5⟩
  letI : ClosedOff (k0_off6 i) := ⟨_, o6⟩
  letI : ClosedOff (k0_off7 i) := ⟨_, o7⟩
  letI : ClosedOff (k0_off8 i) := ⟨_, o8⟩
  letI : ClosedOff (k0_off9 i) := ⟨_, o9⟩
  letI : ClosedOff (k0_off10 i) := ⟨_, o10⟩
  letI : ClosedOff (k0_off11 i) := ⟨_, o11⟩
  letI : ClosedOff (k0_off12 i) := ⟨_, o12⟩
  letI : ClosedOff (k0_off13 i) := ⟨_, o13⟩
  letI : ClosedOff (k0_off14 i) := ⟨_, o14⟩
  letI : ClosedOff (k0_off15 i) := ⟨_, o15⟩
  letI : ClosedOff (k0_off16 i) := ⟨_, o16⟩
  letI : ClosedOff (k0_off17 i) := ⟨_, o17⟩
  letI : ClosedOff (k0_off18 i) := ⟨_, o18⟩
  letI : ClosedOff (k0_off19 i) := ⟨_, o19⟩
  letI : ClosedOff (k0_off20 i) := ⟨_, o20⟩
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  have hQ : runFirst.sl.v1277 c i arg1 arg2 arg3 arg4 arg5 arg6 f1 f2 f3 f4 f5 f6 f13 = blkCodes (arg1.view.read (Elt F) f1) (arg3.view.read (Elt F) f3) (arg4.view.read (Elt F) f4) := by
    refine (readQ i _).trans ?_
    refine GoodQ.block (s := arg3.view.read (Elt F) f3) (t := arg4.view.read (Elt F) f4) (s' := rowLd arg3.view f3) (t' := rowLd arg4.view f4) (L' := []) (cur i) hq ?_ (rowLd_eq _ _) (rowLd_eq _ _)
    iterate 16 refine GoodQ.skip ClosedOff.eq (by decide) ?_
    iterate 16 refine GoodQ.chunk (by rfl) (by decide) (by dsimp only; rfl) ?_
    exact GoodQ.zero _ _ _ _ _
  have hS : runFirst.sl.v1280 c i arg1 arg2 arg3 arg4 arg5 arg6 f1 f2 f3 f4 f5 f6 f13 = blkScale (arg1.view.read (Elt F) f1) (arg3.view.read (Elt F) f3) (arg4.view.read (Elt F) f4) := by
    refine (readS i _).trans ?_
    refine GoodS.block (s := arg3.view.read (Elt F) f3) (t := arg4.view.read (Elt F) f4) (s' := rowLd arg3.view f3) (t' := rowLd arg4.view f4) (L' := []) (cur i) hq ?_ (rowLd_eq _ _) (rowLd_eq _ _)
    iterate 16 refine GoodS.skip (by decide) ?_
    iterate 16 refine GoodS.chunk (by rfl) (by decide) (by dsimp only; rfl) ?_
    exact GoodS.zero _ _ _ _ _
  rw [← hQ, ← hS]
  generalize runFirst.sl.v1277 c i arg1 arg2 arg3 arg4 arg5 arg6 f1 f2 f3 f4 f5 f6 f13 = q, runFirst.sl.v1280 c i arg1 arg2 arg3 arg4 arg5 arg6 f1 f2 f3 f4 f5 f6 f13 = sc at *
  isplitl [H10]
  · iexists _; isplitr
    swap; · iexact H10
    ipureintro
    refine GoodY.whole ?_
    iterate 12 refine GoodY.tile (by rfl) (by decide) (by rfl) ?_
    exact GoodY.zero _ _ _ _
  isplitl [H11]
  · iexists _; isplitr
    swap; · iexact H11
    ipureintro
    exact View.read_writes_full _ _ _ _ _
  isplitl [H12]
  · iexists _; isplitr
    swap; · iexact H12
    ipureintro
    exact View.read_writes_full _ _ _ _ _
  isplitl [H13]
  · iexists _; isplitl
    · iexists _; isplitr
      swap; · iexact H13
      ipureintro; rfl
    ipureintro
    refine GoodQ.block (s := arg5.view.read (Elt F) f5) (t := arg6.view.read (Elt F) f6) (s' := rowLd arg5.view f5) (t' := rowLd arg6.view f6) (L' := [gainPiece (rowLd arg3.view f3)]) (nxt i) hp ?_ (rowLd_eq _ _) (rowLd_eq _ _)
    iterate 16 refine GoodQ.chunk ClosedOff.eq (by decide) (by dsimp only; rfl) ?_
    exact GoodQ.zero _ _ _ _ _
  isplitl [H14]
  · iexists _; isplitl
    · iexists _; isplitr
      swap; · iexact H14
      ipureintro; rfl
    ipureintro
    refine GoodS.block (s := arg5.view.read (Elt F) f5) (t := arg6.view.read (Elt F) f6) (s' := rowLd arg5.view f5) (t' := rowLd arg6.view f6) (L' := [gainPiece (rowLd arg3.view f3)]) (nxt i) hp ?_ (rowLd_eq _ _) (rowLd_eq _ _)
    iterate 16 refine GoodS.chunk (by rfl) (by decide) (by dsimp only; rfl) ?_
    exact GoodS.zero _ _ _ _ _
  iexists _; iexists _; isplitr
  swap; · iexact H15
  ipureintro; rfl

end Cert.KernelIdeal.Body
end
-- ==== Proof.KernelIdeal.Run.lean ====
/- The kernel's run: what the two-slot buffers hold between the points of the grid, the body's obligation at every
   point, and the frame. -/
module

public import proofs.«01_k».proof.Proof.KernelIdeal.Points
public import proofs.«01_k».proof.Proof.KernelIdeal.First
public import Idealize.ShloMosaic.Lib.Claim

@[expose] public section

set_option maxRecDepth 16384
noncomputable section
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The blocks between the points -/

/-- The codes and the scales the body quantises at point `u` for the next point. -/
def nextQ (c : Dev nD) (u : Fin cfg0.N) : Vec F S1x512x1536 .fp8e4m3 := blkCodes (iblk m c 1 u) (iblk m c 4 u) (iblk m c 5 u)
def nextS (c : Dev nD) (u : Fin cfg0.N) : Vec F S1x512x1 .f32 := blkScale (iblk m c 1 u) (iblk m c 4 u) (iblk m c 5 u)

/-- The codes and the scales the body projects at point `t`: quantised there at point 0, at the point before otherwise. -/
def ownQ (c : Dev nD) (t : Fin cfg0.N) : Vec F S1x512x1536 .fp8e4m3 :=
  if t.val = 0 then blkCodes (iblk m c 0 t) (iblk m c 2 t) (iblk m c 3 t)
  else nextQ m c ⟨t.val - 1, Nat.lt_of_le_of_lt (Nat.sub_le _ _) t.isLt⟩
def ownS (c : Dev nD) (t : Fin cfg0.N) : Vec F S1x512x1 .f32 :=
  if t.val = 0 then blkScale (iblk m c 0 t) (iblk m c 2 t) (iblk m c 3 t)
  else nextS m c ⟨t.val - 1, Nat.lt_of_le_of_lt (Nat.sub_le _ _) t.isLt⟩

/-- The slot of block `t`. -/
def slotOf (t : ℕ) : Fin 2 := ⟨t % 2, Nat.mod_lt _ (by decide)⟩

/-- Between the points: once a point has passed, the slot of the coming block holds what the last point quantised. -/
def inv (c : Dev nD) (t : Fin (cfg0.N + 1)) : sProp 𝕄 :=
  iprop((∃ d, owns (c : Thread nD τ) (Memref.whole cc0_scratch0) fullShare d ∗ ⌜∀ u : Fin cfg0.N, u.val + 1 = t.val → slotQ (slotOf t.val) d = nextQ m c u⌝)
    ∗ (∃ d, owns (c : Thread nD τ) (Memref.whole cc0_scratch1) fullShare d ∗ ⌜∀ u : Fin cfg0.N, u.val + 1 = t.val → slotS (slotOf t.val) d = nextS m c u⌝)
    ∗ (∃ d, owns (c : Thread nD τ) (Memref.whole cc0_scratch2) fullShare d)
    ∗ ∃ r, prngReg c r)

/-- What the launch hands the body is the invariant before the first point. -/
theorem inv_first (c : Dev nD) : (Pipeline.ΦA spec0 c : sProp 𝕄) ⊢ inv m c 0 := by
  unfold Pipeline.ΦA inv
  rw [scopedRest0_eq]; simp only [owns_whole_eq]
  iintro ⟨⟨⟨%f0, H0⟩, ⟨%f1, H1⟩, ⟨%f2, H2⟩⟩, Hr⟩
  isplitl [H0]
  · iexists f0; isplitl
    · iexists f0; isplitr; · ipureintro; rfl
      iexact H0
    ipureintro; intro u h; exact absurd h (Nat.succ_ne_zero _)
  isplitl [H1]
  · iexists f1; isplitl
    · iexists f1; isplitr; · ipureintro; rfl
      iexact H1
    ipureintro; intro u h; exact absurd h (Nat.succ_ne_zero _)
  isplitl [H2]
  · iexists f2; iexists f2; isplitr; · ipureintro; rfl
    iexact H2
  iexact Hr

/-- The invariant after the last point is what the launch takes back. -/
theorem inv_last (c : Dev nD) : inv m c (Fin.last cfg0.N) ⊢ (Pipeline.ΦA spec0 c : sProp 𝕄) := by
  unfold Pipeline.ΦA inv
  rw [scopedRest0_eq]; simp only [owns_whole_eq]
  iintro ⟨⟨%d0, ⟨%f0, -, H0⟩, -⟩, ⟨%d1, ⟨%f1, -, H1⟩, -⟩, ⟨%d2, %f2, -, H2⟩, Hr⟩
  isplitr [Hr]
  · isplitl [H0]; · iexists f0; iexact H0
    isplitl [H1]; · iexists f1; iexact H1
    iexists f2; iexact H2
  iexact Hr

/-! ## The pipeline's proof data -/

/-- The proof data of the one pipeline on core `c`: each input's buffer at its block, the three outputs' at the
    projection of the point's own codes, at these codes and at their scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outY (ownQ m c t) (ownS m c t) (iblk m c 6 t) (iblk m c 7 t) (iblk m c 8 t)
    | ⟨10, _⟩ => outCodes (ownQ m c t)
    | ⟨11, _⟩ => outScale (ownS m c t)
  Φ t := inv m c t
  q w := Pipeline.shareOf spec0 w
  owed _ := 0

/-- The proof data's arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- The same at window 1. -/
theorem after0_1 (c : Dev nD) (t : Fin cfg0.N) : (dats m 0 c).after 1 t = iblk m c 1 t := by dsimp only [dats]
/-- The same at window 2. -/
theorem after0_2 (c : Dev nD) (t : Fin cfg0.N) : (dats m 0 c).after 2 t = iblk m c 2 t := by dsimp only [dats]
/-- The same at window 3. -/
theorem after0_3 (c : Dev nD) (t : Fin cfg0.N) : (dats m 0 c).after 3 t = iblk m c 3 t := by dsimp only [dats]
/-- The same at window 4. -/
theorem after0_4 (c : Dev nD) (t : Fin cfg0.N) : (dats m 0 c).after 4 t = iblk m c 4 t := by dsimp only [dats]
/-- The same at window 5. -/
theorem after0_5 (c : Dev nD) (t : Fin cfg0.N) : (dats m 0 c).after 5 t = iblk m c 5 t := by dsimp only [dats]
/-- The same at window 6. -/
theorem after0_6 (c : Dev nD) (t : Fin cfg0.N) : (dats m 0 c).after 6 t = iblk m c 6 t := by dsimp only [dats]
/-- The same at window 7. -/
theorem after0_7 (c : Dev nD) (t : Fin cfg0.N) : (dats m 0 c).after 7 t = iblk m c 7 t := by dsimp only [dats]
/-- The same at window 8. -/
theorem after0_8 (c : Dev nD) (t : Fin cfg0.N) : (dats m 0 c).after 8 t = iblk m c 8 t := by dsimp only [dats]
/-- The same at window 9. -/
theorem after0_9 (c : Dev nD) (t : Fin cfg0.N) : (dats m 0 c).after 9 t = outY (ownQ m c t) (ownS m c t) (iblk m c 6 t) (iblk m c 7 t) (iblk m c 8 t) := by dsimp only [dats]
/-- The same at window 10. -/
theorem after0_10 (c : Dev nD) (t : Fin cfg0.N) : (dats m 0 c).after 10 t = outCodes (ownQ m c t) := by dsimp only [dats]
/-- The same at window 11. -/
theorem after0_11 (c : Dev nD) (t : Fin cfg0.N) : (dats m 0 c).after 11 t = outScale (ownS m c t) := by dsimp only [dats]

/-- Each input's current staging buffer holds its block at every point. -/
theorem before0_0 (c : Dev nD) (t : Fin cfg0.N) (d) : (dats m 0 c).before 0 t d = iblk m c 0 t := before0_0_of m (dats m 0 c) (A_eq m c 0) (after0_0 m c) t d
/-- The same at window 1. -/
theorem before0_1 (c : Dev nD) (t : Fin cfg0.N) (d) : (dats m 0 c).before 1 t d = iblk m c 1 t := before0_1_of m (dats m 0 c) (A_eq m c 1) (after0_1 m c) t d
/-- The same at window 2. -/
theorem before0_2 (c : Dev nD) (t : Fin cfg0.N) (d) : (dats m 0 c).before 2 t d = iblk m c 2 t := before0_2_of m (dats m 0 c) (A_eq m c 2) (after0_2 m c) t d
/-- The same at window 3. -/
theorem before0_3 (c : Dev nD) (t : Fin cfg0.N) (d) : (dats m 0 c).before 3 t d = iblk m c 3 t := before0_3_of m (dats m 0 c) (A_eq m c 3) (after0_3 m c) t d
/-- The same at window 4. -/
theorem before0_4 (c : Dev nD) (t : Fin cfg0.N) (d) : (dats m 0 c).before 4 t d = iblk m c 4 t := before0_4_of m (dats m 0 c) (A_eq m c 4) (after0_4 m c) t d
/-- The same at window 5. -/
theorem before0_5 (c : Dev nD) (t : Fin cfg0.N) (d) : (dats m 0 c).before 5 t d = iblk m c 5 t := before0_5_of m (dats m 0 c) (A_eq m c 5) (after0_5 m c) t d
/-- The same at window 6. -/
theorem before0_6 (c : Dev nD) (t : Fin cfg0.N) (d) : (dats m 0 c).before 6 t d = iblk m c 6 t := before0_6_of m (dats m 0 c) (A_eq m c 6) (after0_6 m c) t d
/-- The same at window 7. -/
theorem before0_7 (c : Dev nD) (t : Fin cfg0.N) (d) : (dats m 0 c).before 7 t d = iblk m c 7 t := before0_7_of m (dats m 0 c) (A_eq m c 7) (after0_7 m c) t d
/-- The same at window 8. -/
theorem before0_8 (c : Dev nD) (t : Fin cfg0.N) (d) : (dats m 0 c).before 8 t d = iblk m c 8 t := before0_8_of m (dats m 0 c) (A_eq m c 8) (after0_8 m c) t d

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The grid's one coordinate is the point's number. -/
theorem coord_val (t : Fin cfg0.N) : ((grid0.coords t) 0).val = t.val := by
  have h := Pipeline.Grid.coords_val (G := grid0) t 0 (S := 1) (B := 32) rfl rfl
  rw [h, Nat.div_one]; exact Nat.mod_eq_of_lt (N_0 ▸ t.isLt)
/-- The slot a point projects is the point's parity. -/
theorem cur_eq (t : Fin cfg0.N) : cur (grid0.coords t) = slotOf t.val := Fin.ext (by show _ % 2 = _ % 2; rw [coord_val])
/-- The slot a point fills is the other one. -/
theorem nxt_eq (t : Fin cfg0.N) : nxt (grid0.coords t) = slotOf (t.val + 1) := Fin.ext (by show 1 - _ % 2 = _ % 2; rw [coord_val]; omega)

/-- The body at any point, from the invariant before it to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = inv m c t.succ from rfl, show (dats m 0 c).Φ t.castSucc = inv m c t.castSucc from rfl,
    show (dats m 0 c).owesAt () t.succ = (dats m 0 c).owesAt () t.castSucc from rfl,
    after0_0, after0_1, after0_2, after0_3, after0_4, after0_5, after0_6, after0_7, after0_8, after0_9, after0_10, after0_11]
  unfold inv
  iintro ⟨⟨⟨%q, Hq, %hq⟩, ⟨%s, Hs, %hs⟩, Hg, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases h0 : t.val = 0
  · rw [show ownQ m c t = blkCodes (iblk m c 0 t) (iblk m c 2 t) (iblk m c 3 t) from if_pos h0,
      show ownS m c t = blkScale (iblk m c 0 t) (iblk m c 2 t) (iblk m c 3 t) from if_pos h0]
    iapply (runFirst c Set.univ (grid0.coords t) ((coord_val t).trans h0) _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [Hq]; · iexists _; iexact Hq
    isplitl [Hs]; · iexists _; iexact Hs
    isplitl [Hg]; · iexact Hg
    iintro ⟨H0, H1, H2, H3, H4, H5, H6, H7, H8, H9, H10, H11, ⟨%q', Hq, %hq'⟩, ⟨%s', Hs, %hs'⟩, Hg⟩
    rw [nxt_eq] at hq' hs'
    isplitl [Hq Hs Hg Hr]
    · isplitl [Hq]
      · iexists q'; isplitl; · iexact Hq
        ipureintro; intro u hu; rw [show u = t from Fin.ext (Nat.succ.inj hu)]; exact hq'
      isplitl [Hs]
      · iexists s'; isplitl; · iexact Hs
        ipureintro; intro u hu; rw [show u = t from Fin.ext (Nat.succ.inj hu)]; exact hs'
      isplitl [Hg]; · iexact Hg
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hlt : t.val - 1 < cfg0.N := Nat.lt_of_le_of_lt (Nat.sub_le _ _) t.isLt
    have hq := hq ⟨t.val - 1, hlt⟩ (show t.val - 1 + 1 = t.val by omega)
    have hs := hs ⟨t.val - 1, hlt⟩ (show t.val - 1 + 1 = t.val by omega)
    rw [show ownQ m c t = slotQ (cur (grid0.coords t)) q from by rw [cur_eq]; exact (if_neg h0).trans hq.symm,
      show ownS m c t = slotS (cur (grid0.coords t)) s from by rw [cur_eq]; exact (if_neg h0).trans hs.symm]
    iapply (runMain c Set.univ (grid0.coords t) (fun h => h0 ((coord_val t).symm.trans h)) _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t) (iblk m c 8 t) q s _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [Hq]; · iexact Hq
    isplitl [Hs]; · iexact Hs
    isplitl [Hg]; · iexact Hg
    iintro ⟨H0, H1, H2, H3, H4, H5, H6, H7, H8, H9, H10, H11, ⟨%q', Hq, %hq'⟩, ⟨%s', Hs, %hs'⟩, Hg⟩
    rw [nxt_eq] at hq' hs'
    isplitl [Hq Hs Hg Hr]
    · isplitl [Hq]
      · iexists q'; isplitl; · iexact Hq
        ipureintro; intro u hu; rw [show u = t from Fin.ext (Nat.succ.inj hu)]; exact hq'
      isplitl [Hs]
      · iexists s'; isplitl; · iexact Hs
        ipureintro; intro u hu; rw [show u = t from Fin.ext (Nat.succ.inj hu)]; exact hs'
      isplitl [Hg]; · iexact Hg
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution terminates with every array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_first m) (hout := inv_last m)

/-- Every weakly fair execution terminates with every array at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Body
end
-- ==== Proof.Spec.lean ====
/- The mathematics of one row, over the extended reals: the normalised, gained and shifted row, the power of two it is
   quantised with, and its codes. Both programs are read against these. -/
module

public import Idealize.ShloMosaic.PureOps.Ideal
public import Idealize.ShloMosaic.PureOps.Ideal.Laws
public import Idealize.ShloMosaic.Lib.IdealHost
public import Idealize.ShloMosaic.Lib.Pointwise.Index

@[expose] public section

noncomputable section
namespace Cert.Row

open Idealize.ShloMosaic

/-- The mean of a row. -/
def mean (x : Fin 1536 → EReal) : EReal := (∑ k, x k) * ((1 / 1536 : ℝ) : EReal)

/-- The mean of the squares of a row's distances from its mean. -/
def var (x : Fin 1536 → EReal) : EReal := (∑ k, (x k - mean x) * (x k - mean x)) * ((1 / 1536 : ℝ) : EReal)

/-- The row normalised, multiplied with the gain `g` and shifted by `t`. -/
def modulated (x g t : Fin 1536 → EReal) (k : Fin 1536) : EReal :=
  (x k - mean x) * Ideal.rsqrt (var x + Ideal.ofBits .f32 0x358637BD#32) * g k + t k

/-- The row's greatest magnitude over the greatest code. -/
def top (h : Fin 1536 → EReal) : EReal :=
  Finset.fold max (Ideal.ofBits .f32 0xFF800000#32) (fun k => max (h k) (-h k)) Finset.univ * Ideal.ofBits .f32 0x3B124925#32

/-- The exponent of the power of two above `v`, kept between −125 and 126; 0 where `v` is below every normal number. -/
def exponent (v : EReal) : EReal :=
  Scalar.select (Ideal.cmp .olt v (Ideal.ofBits .f32 0x00800000#32)) 0
    (min (Ideal.ofBits .f32 0x42FC0000#32) (max (Ideal.ofBits .f32 0xC2FA0000#32)
      (Ideal.liftRound Int.floor (Ideal.log v * (((Real.log 2)⁻¹ : ℝ) : EReal)) + 1)))

/-- The scale of a row: the power of two with that exponent. -/
def scale (h : Fin 1536 → EReal) : EReal := Ideal.exp2 (exponent (top h))

/-- The codes of a row: the row over its scale, kept between −448 and 448. -/
def code (h : Fin 1536 → EReal) (k : Fin 1536) : EReal :=
  min (Ideal.ofBits .f32 0x43E00000#32) (max (Ideal.ofBits .f32 0xC3E00000#32) (h k * Ideal.exp2 (0 - exponent (top h))))

/-- One element of the projection: the codes `q` against a column `w` of the weight, times the row's scale `s` and the
    column's scale `ws`, plus the bias `b`. -/
def project (q w : Fin 1536 → EReal) (s ws b : EReal) : EReal := (∑ k, q k * w k) * s * ws + b

/-! ## The three results from the six arguments -/

/-- Row `R` of the 16384 rows, normalised, gained by one plus its sample's row of `S` and shifted by its sample's row of `T`. -/
def rowOf (X : (⟨3, ![4, 4096, 1536]⟩ : Shape).Idx → EReal) (S T : (⟨2, ![4, 1536]⟩ : Shape).Idx → EReal) (R : Fin 16384) : Fin 1536 → EReal :=
  modulated (fun k => X (ix3 (⟨R.val / 4096, by omega⟩ : Fin 4) (⟨R.val % 4096, by omega⟩ : Fin 4096) k))
    (fun k => 1 + S (ix2 (⟨R.val / 4096, by omega⟩ : Fin 4) k)) (fun k => T (ix2 (⟨R.val / 4096, by omega⟩ : Fin 4) k))

/-- The codes of all rows. -/
def codes (X : (⟨3, ![4, 4096, 1536]⟩ : Shape).Idx → EReal) (S T : (⟨2, ![4, 1536]⟩ : Shape).Idx → EReal) :
    (⟨2, ![16384, 1536]⟩ : Shape).Idx → EReal := fun i => code (rowOf X S T (i 0)) (i 1)

/-- The scales of all rows. -/
def scales (X : (⟨3, ![4, 4096, 1536]⟩ : Shape).Idx → EReal) (S T : (⟨2, ![4, 1536]⟩ : Shape).Idx → EReal) :
    (⟨2, ![16384, 1]⟩ : Shape).Idx → EReal := fun i => scale (rowOf X S T (i 0))

/-- The projection of all rows through the weight `W` with column scales `C` and bias `B`. -/
def projected (X : (⟨3, ![4, 4096, 1536]⟩ : Shape).Idx → EReal) (S T : (⟨2, ![4, 1536]⟩ : Shape).Idx → EReal)
    (W : (⟨2, ![1536, 6144]⟩ : Shape).Idx → EReal) (C B : (⟨1, ![6144]⟩ : Shape).Idx → EReal) :
    (⟨2, ![16384, 6144]⟩ : Shape).Idx → EReal := fun i =>
  project (code (rowOf X S T (i 0))) (fun k => W (ix2 k (i 1))) (scale (rowOf X S T (i 0))) (C (ix1 (i 1))) (B (ix1 (i 1)))

end Cert.Row

end
-- ==== Proof.Scalar.lean ====
/- The power of two a row is quantised with, found by counting: among the 256 f32 patterns with exponent field
   `0, 1, …, 255` and nothing else set, those not above `v` are counted, and the count gives the exponent that the
   logarithm of `v` gives. -/
module

public import proofs.«01_k».proof.Proof.Spec

@[expose] public section

noncomputable section
namespace Cert.Row

open Idealize.ShloMosaic

/-- The pattern with exponent field `k`. -/
def pat (k : ℕ) : BitVec 32 := IntOp.shli .vector (BitVec.ofNat 32 k) 23#32

/-- How many of the 256 patterns are not above `v` (which is first kept at `2 ^ 125` at most), as a word. -/
def count (v : EReal) : BitVec 32 :=
  Finset.fold IntOp.addi (0#32) (fun x : Fin 256 =>
    Scalar.select (Ideal.cmp .oge (min v (Ideal.ofBits .f32 0x7E000000#32)) (Ideal.ofBits .f32 (pat x.val))) 1#32 0#32) Finset.univ

/-- The exponent, as a word, that the count gives. -/
def expWord (n : BitVec 32) : BitVec 32 :=
  Scalar.select (IntOp.cmpi .eq (IntOp.subi n 1#32) 0#32) 0#32 (IntOp.subi (IntOp.subi n 1#32) 126#32)

/-- Counting the first `n` of 256. -/
theorem fold_lt : ∀ n : Fin 257, Finset.fold IntOp.addi (0#32) (fun x : Fin 256 => if x.val < n.val then 1#32 else 0#32) Finset.univ
    = BitVec.ofNat 32 n.val := by decide +kernel

/-- The word `k * 2^23` has sign zero, exponent field `k` and no fraction. -/
theorem pat_fields : ∀ k : Fin 256, ((pat k.val).extractLsb' 31 1 == 1#1) = false ∧ ((pat k.val).extractLsb' 23 8).toNat = k.val
    ∧ ((pat k.val).extractLsb' 0 23).toNat = 0 := by decide +kernel

/-- The exponent's pattern, where the count is `n`. -/
theorem word_up : ∀ n : Fin 254, 1 ≤ n.val → IntOp.shli .vector (IntOp.addi 127#32 (expWord (BitVec.ofNat 32 n.val))) 23#32
    = pat (if n.val = 1 then 127 else n.val) := by decide +kernel
/-- The pattern of the exponent negated, where the count is `n`. -/
theorem word_down : ∀ n : Fin 254, 1 ≤ n.val → IntOp.shli .vector (IntOp.subi 127#32 (expWord (BitVec.ofNat 32 n.val))) 23#32
    = pat (if n.val = 1 then 127 else 254 - n.val) := by decide +kernel

/-- The word with exponent field 0 is zero. -/
theorem pat_zero : Ideal.ofBits .f32 (pat 0) = 0 := by
  obtain ⟨h1, h2, h3⟩ := pat_fields 0
  simp only [Fin.val_zero] at h1 h2 h3
  simp [Ideal.ofBits, Ideal.ieee, h1, h2, h3]

/-- The word with exponent field 255 is infinity. -/
theorem pat_top : Ideal.ofBits .f32 (pat 255) = ⊤ := by
  obtain ⟨h1, h2, h3⟩ := pat_fields 255
  have e : ((255 : Fin 256) : ℕ) = 255 := rfl
  simp only [e] at h1 h2 h3
  simp [Ideal.ofBits, Ideal.ieee, h1, h2, h3]

/-- A normal pattern denotes its power of two. -/
theorem pat_val (k : ℕ) (h0 : 1 ≤ k) (h1 : k ≤ 254) : Ideal.ofBits .f32 (pat k) = (((2 : ℝ) ^ ((k : ℤ) - 127) : ℝ) : EReal) := by
  obtain ⟨e1, e2, e3⟩ := pat_fields ⟨k, by omega⟩
  simp only at e1 e2 e3
  have hk : ¬ k = 255 := by omega
  have hk0 : ¬ k = 0 := by omega
  simp only [Ideal.ofBits, Ideal.ieee, e1, e2, e3]
  rw [if_neg (by norm_num; exact hk), if_neg hk0]
  refine congrArg Real.toEReal ?_
  rw [show (((2 ^ 23 + 0 : ℕ) : ℝ)) = 2 ^ (23 : ℤ) by norm_num, if_neg (by decide), one_mul, ← zpow_add₀ (by norm_num)]
  refine congrArg (fun z : ℤ => (2 : ℝ) ^ z) ?_
  norm_num

/-- The cap in the count is 2^125. -/
theorem const_cap : Ideal.ofBits .f32 0x7E000000#32 = (((2 : ℝ) ^ (125 : ℤ) : ℝ) : EReal) := pat_val 252 (by decide) (by decide)
/-- The least normal number is 2^-126. -/
theorem const_min : Ideal.ofBits .f32 0x00800000#32 = (((2 : ℝ) ^ (-126 : ℤ) : ℝ) : EReal) := pat_val 1 (by decide) (by decide)
/-- The greatest exponent, 126. -/
theorem const_126 : Ideal.ofBits .f32 0x42FC0000#32 = ((126 : ℝ) : EReal) := by
  simp [Ideal.ofBits, Ideal.ieee]; norm_num; rw [← EReal.coe_mul]; norm_num
/-- The least exponent, -125. -/
theorem const_m125 : Ideal.ofBits .f32 0xC2FA0000#32 = ((-125 : ℝ) : EReal) := by
  simp [Ideal.ofBits, Ideal.ieee]; norm_num; rw [← EReal.coe_mul]; norm_num
/-- The row length, 1536. -/
theorem const_1536 : Ideal.ofBits .f32 0x44C00000#32 = ((1536 : ℝ) : EReal) := by
  simp [Ideal.ofBits, Ideal.ieee]; norm_num; rw [← EReal.coe_mul]; norm_num
/-- The factor of the greatest magnitude is not negative. -/
theorem const_factor : 0 ≤ Ideal.ofBits .f32 0x3B124925#32 := by
  simp [Ideal.ofBits, Ideal.ieee]
  rw [← EReal.coe_mul, EReal.coe_nonneg]
  positivity

/-- If exactly the patterns below `n` are not above `v`, the count is `n`. -/
theorem count_eq {v : EReal} (n : ℕ) (hn : n ≤ 256)
    (h : ∀ x : Fin 256, Ideal.ofBits .f32 (pat x.val) ≤ min v (Ideal.ofBits .f32 0x7E000000#32) ↔ x.val < n) :
    count v = BitVec.ofNat 32 n := by
  refine (Eq.trans ?_ (fold_lt ⟨n, by omega⟩))
  unfold count
  congr 1
  funext x
  by_cases hx : x.val < n
  · have := (h x).mpr hx
    simp [Ideal.cmp, Scalar.select, hx, this]
  · have := mt (h x).mp hx
    simp [Ideal.cmp, Scalar.select, hx, this]

/-- What the count gives, and what the logarithm gives: some `n` from 1 to 253 is the count, and `n − 127` the exponent
    (0 where `n` is 1). -/
theorem count_exponent {v : EReal} (hv : 0 ≤ v) : ∃ n : ℕ, 1 ≤ n ∧ n ≤ 253 ∧ count v = BitVec.ofNat 32 n
    ∧ exponent v = ((((if n = 1 then 0 else (n : ℤ) - 127) : ℤ) : ℝ) : EReal) := by
  induction v using EReal.rec with
  | bot => simp at hv
  | top =>
    refine ⟨253, by decide, by decide, count_eq 253 (by decide) fun x => ?_, ?_⟩
    · rw [min_eq_right le_top, const_cap]
      rcases Nat.eq_zero_or_pos x.val with h | h
      · rw [h, pat_zero]
        simp only [Nat.ofNat_pos, iff_true, EReal.coe_nonneg]; positivity
      · rcases Nat.lt_or_ge x.val 255 with h' | h'
        · rw [pat_val _ h (by omega), EReal.coe_le_coe_iff, zpow_le_zpow_iff_right₀ (by norm_num)]
          omega
        · have : x.val = 255 := by omega
          rw [this, pat_top]
          exact ⟨fun hh => absurd (top_le_iff.mp hh) (EReal.coe_ne_top _), fun hh => by omega⟩
    · unfold exponent
      rw [const_min, const_126, const_m125]
      have h2 : (0 : ℝ) < (Real.log 2)⁻¹ := inv_pos.mpr (Real.log_pos (by norm_num))
      have h3 : (⊤ : EReal) + 1 = ⊤ := by rw [← EReal.coe_one, EReal.top_add_coe]
      simp [Ideal.cmp, Scalar.select, EReal.top_mul_coe_of_pos h2, h3]
  | coe r =>
    have hr : 0 ≤ r := by exact_mod_cast hv
    rcases lt_or_ge r ((2 : ℝ) ^ (-126 : ℤ)) with hlt | hge
    · refine ⟨1, le_rfl, by decide, count_eq 1 (by decide) fun x => ?_, ?_⟩
      · rw [const_cap, le_min_iff]
        rcases Nat.eq_zero_or_pos x.val with h | h
        · rw [h, pat_zero]
          simp only [Nat.lt_one_iff, iff_true, EReal.coe_nonneg]
          exact ⟨hr, by positivity⟩
        · rcases Nat.lt_or_ge x.val 255 with h' | h'
          · rw [pat_val _ h (by omega), EReal.coe_le_coe_iff]
            have : (2 : ℝ) ^ (-126 : ℤ) ≤ 2 ^ ((x.val : ℤ) - 127) := zpow_le_zpow_right₀ (by norm_num) (by omega)
            constructor
            · intro hh; exact absurd (lt_of_le_of_lt (this.trans hh.1) hlt) (lt_irrefl _)
            · omega
          · have : x.val = 255 := by omega
            rw [this, pat_top]
            exact ⟨fun hh => absurd (top_le_iff.mp hh.1) (EReal.coe_ne_top _), fun hh => by omega⟩
      · unfold exponent
        rw [const_min]
        have : ((r : ℝ) : EReal) < (((2 : ℝ) ^ (-126 : ℤ) : ℝ) : EReal) := EReal.coe_lt_coe_iff.mpr hlt
        simp only [Ideal.cmp, this]
        simp [Scalar.select]
    · have hpos : 0 < r := lt_of_lt_of_le (by positivity) hge
      obtain ⟨L, hL⟩ : ∃ L : ℤ, L = ⌊Real.log r / Real.log 2⌋ := ⟨_, rfl⟩
      have hle : ∀ z : ℤ, (2 : ℝ) ^ z ≤ r ↔ z ≤ L := by
        intro z
        rw [hL, Int.le_floor, le_div_iff₀ (Real.log_pos (by norm_num)), ← Real.log_zpow,
          Real.log_le_log_iff (by positivity) hpos]
      have hL0 : -126 ≤ L := (hle _).mp hge
      refine ⟨(min L 125 + 128).toNat, by omega, by omega, count_eq _ (by omega) fun x => ?_, ?_⟩
      · rw [const_cap, le_min_iff]
        rcases Nat.eq_zero_or_pos x.val with h | h
        · rw [h, pat_zero]
          simp only [EReal.coe_nonneg]
          exact ⟨fun _ => by omega, fun _ => ⟨hr, by positivity⟩⟩
        · rcases Nat.lt_or_ge x.val 255 with h' | h'
          · rw [pat_val _ h (by omega), EReal.coe_le_coe_iff, EReal.coe_le_coe_iff, hle, zpow_le_zpow_iff_right₀ (by norm_num)]
            omega
          · have : x.val = 255 := by omega
            rw [this, pat_top]
            exact ⟨fun hh => absurd (top_le_iff.mp hh.1) (EReal.coe_ne_top _), fun hh => by omega⟩
      · have hn : ¬ (min L 125 + 128).toNat = 1 := by omega
        have hn' : (((min L 125 + 128).toNat : ℕ) : ℤ) = min L 125 + 128 := by omega
        rw [if_neg hn, hn']
        unfold exponent
        rw [const_min, const_126, const_m125]
        have hnl : ¬ (((r : ℝ) : EReal) < (((2 : ℝ) ^ (-126 : ℤ) : ℝ) : EReal)) := not_lt.mpr (EReal.coe_le_coe_iff.mpr hge)
        have hlog : Ideal.log ((r : ℝ) : EReal) = ((Real.log r : ℝ) : EReal) := by
          rw [Ideal.log_coe, if_neg (not_le.mpr hpos)]
        rw [hlog, ← EReal.coe_mul, ← div_eq_mul_inv, Ideal.liftRound_coe, ← hL]
        simp only [Ideal.cmp, hnl]
        simp only [Scalar.select]
        rw [if_neg (by decide), show (((L : ℤ) : ℝ) : EReal) + 1 = (((L + 1 : ℤ) : ℝ) : EReal) by push_cast; rfl,
          show ((-125 : ℝ)) = (((-125 : ℤ)) : ℝ) by norm_num, show ((126 : ℝ)) = (((126 : ℤ)) : ℝ) by norm_num,
          max_eq_right (EReal.coe_le_coe_iff.mpr (Int.cast_le.mpr (by omega)))]
        rcases le_total (L + 1) 126 with h | h
        · rw [min_eq_right (EReal.coe_le_coe_iff.mpr (Int.cast_le.mpr h)), min_eq_left (by omega)]
          congr 2
          omega
        · rw [min_eq_left (EReal.coe_le_coe_iff.mpr (Int.cast_le.mpr h)), min_eq_right (by omega)]
          rfl

/-- The pattern the count gives for the exponent denotes two to the exponent. -/
theorem scale_of_count {v : EReal} (hv : 0 ≤ v) :
    Ideal.ofBits .f32 (IntOp.shli .vector (IntOp.addi 127#32 (expWord (count v))) 23#32) = Ideal.exp2 (exponent v) := by
  obtain ⟨n, h1, h2, hc, he⟩ := count_exponent hv
  rw [hc, he, word_up ⟨n, by omega⟩ h1, Ideal.exp2_coe]
  rw [show Real.rpow 2 = fun x : ℝ => (2 : ℝ) ^ x from rfl]
  by_cases h : n = 1
  · rw [if_pos h, if_pos h, pat_val _ (by decide) (by decide)]
    norm_num
  · rw [if_neg h, if_neg h, pat_val _ h1 (by omega)]
    simp only [Real.rpow_intCast]

/-- The pattern the count gives for the negated exponent denotes two to it. -/
theorem inverse_of_count {v : EReal} (hv : 0 ≤ v) :
    Ideal.ofBits .f32 (IntOp.shli .vector (IntOp.subi 127#32 (expWord (count v))) 23#32) = Ideal.exp2 (0 - exponent v) := by
  obtain ⟨n, h1, h2, hc, he⟩ := count_exponent hv
  rw [hc, he, word_down ⟨n, by omega⟩ h1, ← EReal.coe_zero, ← EReal.coe_sub, zero_sub, ← Int.cast_neg, Ideal.exp2_coe]
  rw [show Real.rpow 2 = fun x : ℝ => (2 : ℝ) ^ x from rfl]
  by_cases h : n = 1
  · rw [if_pos h, if_pos h, pat_val _ (by decide) (by decide)]
    norm_num
  · rw [if_neg h, if_neg h, pat_val _ (by omega) (by omega)]
    simp only [Real.rpow_intCast]
    congr 2
    omega

/-- The greatest magnitude over the greatest code is not negative. -/
theorem top_nonneg (h : Fin 1536 → EReal) : 0 ≤ top h := by
  refine mul_nonneg ?_ const_factor
  rw [Finset.le_fold_max]
  refine .inr ⟨0, Finset.mem_univ _, ?_⟩
  rcases le_total 0 (h 0) with h0 | h0
  · exact le_max_of_le_left h0
  · exact le_max_of_le_right (EReal.neg_nonneg.mpr h0)

end Cert.Row

end
-- ==== Proof.KernelIdeal.Rows.lean ====
/- The kernel's quantisation and projection of one block, read row by row over the extended reals: the codes and the
   scales of a row are the specification's, and an element of the projected block is the specification's. -/
module

public import proofs.«01_k».proof.Proof.Scalar
public import proofs.«01_k».proof.Proof.KernelIdeal.Chunk
public import Idealize.ShloMosaic.Lib.Pointwise

@[expose] public section

noncomputable section
namespace Cert.KernelIdeal.Body

open Cert.KernelIdeal Cert.KernelIdeal.Gen
open Idealize.ShloMosaic

/-- The named constant is one over 1536. -/
theorem inv_d_eq : (Named.named κ "inv_d" 0x3A2AAAAB#32 : Ideal .f32) = ((1 / 1536 : ℝ) : EReal) := rfl

/-- Row `r` of a chunk, modulated. -/
abbrev modRow (x : Vec Ideal S32x1536 .bf16) (g : Vec Ideal S1x1536 .f32) (t : Vec Ideal S1x1x1536 .f32) (r : Fin 32) : Fin 1536 → EReal :=
  Row.modulated (fun k => x (ix2 r k)) (fun k => g (ix2 (0 : Fin 1) k)) (fun k => t (ix3 (0 : Fin 1) (0 : Fin 1) k))

/-- The chunk's modulated rows, entry by entry. -/
theorem pay228_apply (x : Vec Ideal S32x1536 .bf16) (g : Vec Ideal S1x1536 .f32) (t : Vec Ideal S1x1x1536 .f32) (r : Fin 32) (k : Fin 1536) :
    k0_pay228 x g t (ix2 r k) = modRow x g t r k := by
  pointwise [k0_pay228]
  rfl

/-- The chunk's row magnitudes over 448. -/
theorem pay229_apply (x : Vec Ideal S32x1536 .bf16) (g : Vec Ideal S1x1536 .f32) (t : Vec Ideal S1x1x1536 .f32) (r : Fin 32) :
    k0_pay229 x g t (ix2 r (0 : Fin 1)) = Row.top (modRow x g t r) := by
  pointwise [k0_pay229]
  simp only [pay228_apply]
  rfl

/-- The words of a row, added up. -/
theorem rowSum_apply (u : IVec S32x256 32) (r : Fin 32) : shapeCast S32x1 (multiReductionI .add [1] S32 u 0#32 reduces_S32x256_S32 rfl) shapeCasts_S32_S32x1 (ix2 r (0 : Fin 1)) = Finset.fold IntOp.addi (0#32) (fun x : Fin 256 => u (ix2 r x)) Finset.univ := by
  pointwise
/-- One of the 256 comparisons of a row. -/
theorem compare_apply (v : FVec Ideal S32x1 .f32) (r : Fin 32) (x : Fin 256) : select (cmpf .oge (broadcastTo S32x256 (minimumf v (broadcast S32x1 (Scalar.ofBits .f32 0x7E000000#32))) broadcasts_S32x1_S32x256) k0_pay230) (broadcast S32x256 1#32) (broadcast S32x256 0#32) (ix2 r x) =
   Scalar.select (Ideal.cmp .oge (min (v (ix2 r (0 : Fin 1))) (Ideal.ofBits .f32 0x7E000000#32)) (Ideal.ofBits .f32 (Row.pat x.val))) 1#32 0#32 := by
  pointwise [k0_pay230]
  rfl
/-- The exponent the kernel finds by counting. -/
theorem pay231_apply (v : FVec Ideal S32x1 .f32) (r : Fin 32) :
    k0_pay231 v k0_pay230 (ix2 r (0 : Fin 1)) = Row.expWord (Row.count (v (ix2 r (0 : Fin 1)))) := by
  have e := rowSum_apply (select (cmpf .oge (broadcastTo S32x256 (minimumf v (broadcast S32x1 (Scalar.ofBits .f32 0x7E000000#32))) broadcasts_S32x1_S32x256) k0_pay230) (broadcast S32x256 1#32) (broadcast S32x256 0#32)) r
  simp only [compare_apply] at e
  exact congrArg Row.expWord e

/-- A code of a chunk is the row's code. -/
theorem chunkCodes_apply (x : Vec Ideal S32x1536 .bf16) (g : Vec Ideal S1x1536 .f32) (t : Vec Ideal S1x1x1536 .f32) (r : Fin 32) (k : Fin 1536) :
    chunkCodes x g t (ix3 (0 : Fin 1) r k) = Row.code (modRow x g t r) k := by
  unfold chunkCodes Row.code
  rw [← Row.inverse_of_count (Row.top_nonneg _), ← pay229_apply, ← pay231_apply, ← pay228_apply]
  pointwise [k0_pay233]
  try rfl

/-- A scale of a chunk is the row's scale. -/
theorem chunkScale_apply (x : Vec Ideal S32x1536 .bf16) (g : Vec Ideal S1x1536 .f32) (t : Vec Ideal S1x1x1536 .f32) (r : Fin 32) :
    chunkScale x g t (ix2 r (0 : Fin 1)) = Row.scale (modRow x g t r) := by
  unfold chunkScale Row.scale
  rw [← Row.scale_of_count (Row.top_nonneg _), ← pay229_apply, ← pay231_apply]
  pointwise [k0_pay234, k0_pay232]
  try rfl

/-- Row `r` of a block, modulated with one plus `s` and with `t`. -/
abbrev blkRow (x : Vec Ideal S512x1536 .bf16) (s t : Vec Ideal S1x1x1536 .f32) (r : Fin 512) : Fin 1536 → EReal :=
  Row.modulated (fun k => x (ix2 r k)) (fun k => 1 + s (ix3 (0 : Fin 1) (0 : Fin 1) k)) (fun k => t (ix3 (0 : Fin 1) (0 : Fin 1) k))

/-- The gain row is one plus the scale row. -/
theorem gain_apply (s : Vec Ideal S1x1x1536 .f32) (k : Fin 1536) : gain s (ix2 (0 : Fin 1) k) = 1 + s (ix3 (0 : Fin 1) (0 : Fin 1) k) := by
  unfold gain
  pointwise [k0_pay119]

/-- Row `r` of the block, found in its chunk. -/
theorem rows_apply (x : Vec Ideal S512x1536 .bf16) (r : Fin 512) (k : Fin 1536) : rows x (chunkOf r) (ix2 (inChunk r) k) = x (ix2 r k) := by
  pointwise [rows]
  refine congrArg x (congrArg (fun z => ix2 z k) (Fin.ext ?_))
  simp only [chunkOf, inChunk]
  omega

/-- A modulated row of a chunk is that row of the block. -/
theorem modRow_rows (x : Vec Ideal S512x1536 .bf16) (s t : Vec Ideal S1x1x1536 .f32) (r : Fin 512) :
    modRow (rows x (chunkOf r)) (gain s) t (inChunk r) = blkRow x s t r := by
  simp only [modRow, blkRow, rows_apply, gain_apply]

/-- A code of a block is the row's code. -/
theorem blkCodes_apply (x : Vec Ideal S512x1536 .bf16) (s t : Vec Ideal S1x1x1536 .f32) (r : Fin 512) (k : Fin 1536) :
    blkCodes x s t (ix3 (0 : Fin 1) r k) = Row.code (blkRow x s t r) k := by
  rw [← modRow_rows, ← chunkCodes_apply]
  rfl

/-- A scale of a block is the row's scale. -/
theorem blkScale_apply (x : Vec Ideal S512x1536 .bf16) (s t : Vec Ideal S1x1x1536 .f32) (r : Fin 512) :
    blkScale x s t (ix3 (0 : Fin 1) r (0 : Fin 1)) = Row.scale (blkRow x s t r) := by
  rw [← modRow_rows, ← chunkScale_apply]
  rfl

/-- The codes written out are those of the slot. -/
theorem outCodes_apply (q : Vec Ideal S1x512x1536 .fp8e4m3) (r : Fin 512) (k : Fin 1536) : outCodes q (ix2 r k) = q (ix3 (0 : Fin 1) r k) := by
  unfold outCodes
  pointwise [k0_pay235]

/-- The scales written out are those of the slot. -/
theorem outScale_apply (sc : Vec Ideal S1x512x1 .f32) (r : Fin 512) : outScale sc (ix2 r (0 : Fin 1)) = sc (ix3 (0 : Fin 1) r (0 : Fin 1)) := by
  unfold outScale
  pointwise [k0_pay236]

/-- An element of a projected tile. -/
theorem pay237_apply (q : Vec Ideal S1x512x1536 .fp8e4m3) (sc : Vec Ideal S1x512x1 .f32) (w : Vec Ideal S1536x512 .fp8e4m3) (ws b : Vec Ideal S1x512 .f32)
    (r j : Fin 512) : k0_pay237 q sc w ws b (ix2 r j) = Row.project (fun k => q (ix3 (0 : Fin 1) r k)) (fun k => w (ix2 k j)) (sc (ix3 (0 : Fin 1) r (0 : Fin 1)))
      (ws (ix2 (0 : Fin 1) j)) (b (ix2 (0 : Fin 1) j)) := by
  pointwise [k0_pay237, k0_pay235, k0_pay236]
  rfl

/-- Column `j` of the weight, found in its tile. -/
theorem colsW_apply (w : Vec Ideal S1536x6144 .fp8e4m3) (k : Fin 1536) (j : Fin 6144) : colsW w (tileOf j) (ix2 k (inTile j)) = w (ix2 k j) := by
  pointwise [colsW]
  refine congrArg w (congrArg (fun z => ix2 k z) (Fin.ext ?_))
  simp only [tileOf, inTile]
  omega

/-- Entry `j` of a row, found in its tile. -/
theorem colsB_apply (b : Vec Ideal S1x6144 .f32) (j : Fin 6144) : colsB b (tileOf j) (ix2 (0 : Fin 1) (inTile j)) = b (ix2 (0 : Fin 1) j) := by
  pointwise [colsB]
  refine congrArg b (congrArg (fun z => ix2 (0 : Fin 1) z) (Fin.ext ?_))
  simp only [tileOf, inTile]
  omega

/-- An element of the projected block. -/
theorem outY_apply (q : Vec Ideal S1x512x1536 .fp8e4m3) (sc : Vec Ideal S1x512x1 .f32) (w : Vec Ideal S1536x6144 .fp8e4m3) (ws b : Vec Ideal S1x6144 .f32)
    (r : Fin 512) (j : Fin 6144) : outY q sc w ws b (ix2 r j) = Row.project (fun k => q (ix3 (0 : Fin 1) r k)) (fun k => w (ix2 k j))
      (sc (ix3 (0 : Fin 1) r (0 : Fin 1))) (ws (ix2 (0 : Fin 1) j)) (b (ix2 (0 : Fin 1) j)) := by
  refine Eq.trans (b := k0_pay237 q sc (colsW w (tileOf j)) (colsB ws (tileOf j)) (colsB b (tileOf j)) (ix2 r (inTile j))) rfl ?_
  rw [pay237_apply]
  simp only [colsW_apply, colsB_apply]

end Cert.KernelIdeal.Body

end
-- ==== Proof.KernelIdeal.Value.lean ====
/- The arrays the kernel leaves: block by block, the specification's codes, scales and projection of the arguments. -/
module

public import proofs.«01_k».proof.Proof.KernelIdeal.Run
public import proofs.«01_k».proof.Proof.KernelIdeal.Rows
public import Idealize.ShloMosaic.Lib.Pipeline.ValueKit

@[expose] public section

noncomputable section
namespace Cert.KernelIdeal.Body

open Cert.KernelIdeal Cert.KernelIdeal.Gen
open Idealize.ShloMosaic Idealize.ShloMosaic.TcCoe

variable (m : (ℓ : Loc nD τ sig) → Buf (Elt Ideal) ℓ)

/-! ## Where the windows read and write -/

/-- The block window 0 holds at a point. -/
theorem index_0 : ∀ t : Fin cfg0.N, win0_0.index t = ![0, 0] := by decide +kernel
/-- The block window 1 holds at a point. -/
theorem index_1 : ∀ t : Fin cfg0.N, win0_1.index t = ![min (t.val+1) 31, 0] := by decide +kernel
/-- The block window 2 holds at a point. -/
theorem index_2 : ∀ t : Fin cfg0.N, win0_2.index t = ![0, 0, 0] := by decide +kernel
/-- The block window 3 holds at a point. -/
theorem index_3 : ∀ t : Fin cfg0.N, win0_3.index t = ![0, 0, 0] := by decide +kernel
/-- The block window 4 holds at a point. -/
theorem index_4 : ∀ t : Fin cfg0.N, win0_4.index t = ![min (t.val+1) 31 / 8, 0, 0] := by decide +kernel
/-- The block window 5 holds at a point. -/
theorem index_5 : ∀ t : Fin cfg0.N, win0_5.index t = ![min (t.val+1) 31 / 8, 0, 0] := by decide +kernel
/-- The block window 6 holds at a point. -/
theorem index_6 : ∀ t : Fin cfg0.N, win0_6.index t = ![0, 0] := by decide +kernel
/-- The block window 7 holds at a point. -/
theorem index_7 : ∀ t : Fin cfg0.N, win0_7.index t = ![0, 0] := by decide +kernel
/-- The block window 8 holds at a point. -/
theorem index_8 : ∀ t : Fin cfg0.N, win0_8.index t = ![0, 0] := by decide +kernel
/-- The block window 9 holds at a point. -/
theorem index_9 : ∀ t : Fin cfg0.N, win0_9.index t = ![t.val, 0] := by decide +kernel
/-- The block window 10 holds at a point. -/
theorem index_10 : ∀ t : Fin cfg0.N, win0_10.index t = ![t.val, 0] := by decide +kernel
/-- The block window 11 holds at a point. -/
theorem index_11 : ∀ t : Fin cfg0.N, win0_11.index t = ![t.val, 0] := by decide +kernel

/-- Window 0 reads the first 512 rows. -/
theorem blk_0 (c : Dev nD) (t : Fin cfg0.N) (r : Fin 512) (k : Fin 1536) :
    iblk m c 0 t (ix2 r k) = V m c main_v0 (ix2 (⟨r.val, by omega⟩ : Fin 16384) k) := by
  unfold iblk
  blk_simp
  refine congrArg (V m c main_v0) (funext fun a => ?_)
  match a with
  | ⟨0, _⟩ => apply Fin.ext; blk_simp [index_0]
  | ⟨1, _⟩ => apply Fin.ext; blk_simp [index_0]

/-- Window 1 reads the 512 rows of the coming block. -/
theorem blk_1 (c : Dev nD) (t : Fin cfg0.N) (r : Fin 512) (k : Fin 1536) :
    iblk m c 1 t (ix2 r k) = V m c main_v0 (ix2 (⟨min (t.val + 1) 31 * 512 + r.val, by omega⟩ : Fin 16384) k) := by
  unfold iblk
  blk_simp
  refine congrArg (V m c main_v0) (funext fun a => ?_)
  match a with
  | ⟨0, _⟩ => apply Fin.ext; blk_simp [index_1]
  | ⟨1, _⟩ => apply Fin.ext; blk_simp [index_1]

/-- Window 2 reads the first sample's gain row. -/
theorem blk_2 (c : Dev nD) (t : Fin cfg0.N) (k : Fin 1536) :
    iblk m c 2 t (ix3 (0 : Fin 1) (0 : Fin 1) k) = V m c main_v1 (ix3 (0 : Fin 4) (0 : Fin 1) k) := by
  unfold iblk
  blk_simp
  refine congrArg (V m c main_v1) (funext fun a => ?_)
  match a with
  | ⟨0, _⟩ => apply Fin.ext; blk_simp [index_2]; rfl
  | ⟨1, _⟩ => apply Fin.ext; blk_simp [index_2]
  | ⟨2, _⟩ => apply Fin.ext; blk_simp [index_2]

/-- Window 3 reads the first sample's shift row. -/
theorem blk_3 (c : Dev nD) (t : Fin cfg0.N) (k : Fin 1536) :
    iblk m c 3 t (ix3 (0 : Fin 1) (0 : Fin 1) k) = V m c main_v2 (ix3 (0 : Fin 4) (0 : Fin 1) k) := by
  unfold iblk
  blk_simp
  refine congrArg (V m c main_v2) (funext fun a => ?_)
  match a with
  | ⟨0, _⟩ => apply Fin.ext; blk_simp [index_3]; rfl
  | ⟨1, _⟩ => apply Fin.ext; blk_simp [index_3]
  | ⟨2, _⟩ => apply Fin.ext; blk_simp [index_3]

/-- Window 4 reads the gain row of the coming block's sample. -/
theorem blk_4 (c : Dev nD) (t : Fin cfg0.N) (k : Fin 1536) :
    iblk m c 4 t (ix3 (0 : Fin 1) (0 : Fin 1) k) = V m c main_v1 (ix3 (⟨min (t.val + 1) 31 / 8, by omega⟩ : Fin 4) (0 : Fin 1) k) := by
  unfold iblk
  blk_simp
  refine congrArg (V m c main_v1) (funext fun a => ?_)
  match a with
  | ⟨0, _⟩ => apply Fin.ext; blk_simp [index_4]; rfl
  | ⟨1, _⟩ => apply Fin.ext; blk_simp [index_4]
  | ⟨2, _⟩ => apply Fin.ext; blk_simp [index_4]

/-- Window 5 reads the shift row of the coming block's sample. -/
theorem blk_5 (c : Dev nD) (t : Fin cfg0.N) (k : Fin 1536) :
    iblk m c 5 t (ix3 (0 : Fin 1) (0 : Fin 1) k) = V m c main_v2 (ix3 (⟨min (t.val + 1) 31 / 8, by omega⟩ : Fin 4) (0 : Fin 1) k) := by
  unfold iblk
  blk_simp
  refine congrArg (V m c main_v2) (funext fun a => ?_)
  match a with
  | ⟨0, _⟩ => apply Fin.ext; blk_simp [index_5]; rfl
  | ⟨1, _⟩ => apply Fin.ext; blk_simp [index_5]
  | ⟨2, _⟩ => apply Fin.ext; blk_simp [index_5]

/-- Window 6 reads the whole weight. -/
theorem blk_6 (c : Dev nD) (t : Fin cfg0.N) (k : Fin 1536) (j : Fin 6144) :
    iblk m c 6 t (ix2 k j) = V m c main_arg3 (ix2 k j) := by
  unfold iblk
  blk_simp
  refine congrArg (V m c main_arg3) (funext fun a => ?_)
  match a with
  | ⟨0, _⟩ => apply Fin.ext; blk_simp [index_6]
  | ⟨1, _⟩ => apply Fin.ext; blk_simp [index_6]

/-- Window 7 reads the whole column scales. -/
theorem blk_7 (c : Dev nD) (t : Fin cfg0.N) (j : Fin 6144) :
    iblk m c 7 t (ix2 (0 : Fin 1) j) = V m c main_v3 (ix2 (0 : Fin 1) j) := by
  unfold iblk
  blk_simp
  refine congrArg (V m c main_v3) (funext fun a => ?_)
  match a with
  | ⟨0, _⟩ => apply Fin.ext; blk_simp [index_7]
  | ⟨1, _⟩ => apply Fin.ext; blk_simp [index_7]

/-- Window 8 reads the whole bias. -/
theorem blk_8 (c : Dev nD) (t : Fin cfg0.N) (j : Fin 6144) :
    iblk m c 8 t (ix2 (0 : Fin 1) j) = V m c main_v4 (ix2 (0 : Fin 1) j) := by
  unfold iblk
  blk_simp
  refine congrArg (V m c main_v4) (funext fun a => ?_)
  match a with
  | ⟨0, _⟩ => apply Fin.ext; blk_simp [index_8]
  | ⟨1, _⟩ => apply Fin.ext; blk_simp [index_8]

/-! ## The arrays the windows read, in the arguments -/

/-- The samples' rows laid end to end. -/
theorem cast_x (X : Vec Ideal S4x4096x1536 .bf16) (R : Fin 16384) (k : Fin 1536) : shapeCast S16384x1536 X shapeCasts_S4x4096x1536_S16384x1536 (ix2 R k)
    = X (ix3 (⟨R.val / 4096, by omega⟩ : Fin 4) (⟨R.val % 4096, by omega⟩ : Fin 4096) k) := by
  pointwise
/-- A row per sample, with a unit axis between. -/
theorem cast_s (X : Vec Ideal S4x1536 .f32) (b : Fin 4) (k : Fin 1536) :
    shapeCast S4x1x1536 X shapeCasts_S4x1536_S4x1x1536 (ix3 b (0 : Fin 1) k) = X (ix2 b k) := by
  pointwise
/-- A vector as one row. -/
theorem cast_b (X : Vec Ideal S6144 .f32) (j : Fin 6144) : shapeCast S1x6144 X shapeCasts_S6144_S1x6144 (ix2 (0 : Fin 1) j) = X (ix1 j) := by
  pointwise

/-- The rows are the samples' rows, one sample after another. -/
theorem V_x (c : Dev nD) (R : Fin 16384) (k : Fin 1536) :
    V m c main_v0 (ix2 R k) = m ((c : Thread nD τ).loc main_arg0) (ix3 (⟨R.val / 4096, by omega⟩ : Fin 4) (⟨R.val % 4096, by omega⟩ : Fin 4096) k) := by
  have e : V m c main_v0 = shapeCast S16384x1536 (m ((c : Thread nD τ).loc main_arg0) : Vec Ideal S4x4096x1536 .bf16) shapeCasts_S4x4096x1536_S16384x1536 := by
    unfold_abbrev_sides
    after_results
    rfl
  exact (congrFun e _).trans (cast_x _ _ _)

/-- The gain row of sample `b`. -/
theorem V_s (c : Dev nD) (b : Fin 4) (k : Fin 1536) :
    V m c main_v1 (ix3 b (0 : Fin 1) k) = m ((c : Thread nD τ).loc main_arg1) (ix2 b k) := by
  have e : V m c main_v1 = shapeCast S4x1x1536 (m ((c : Thread nD τ).loc main_arg1) : Vec Ideal S4x1536 .f32) shapeCasts_S4x1536_S4x1x1536 := by
    unfold_abbrev_sides
    after_results
    rfl
  exact (congrFun e _).trans (cast_s _ _ _)

/-- The shift row of sample `b`. -/
theorem V_t (c : Dev nD) (b : Fin 4) (k : Fin 1536) :
    V m c main_v2 (ix3 b (0 : Fin 1) k) = m ((c : Thread nD τ).loc main_arg2) (ix2 b k) := by
  have e : V m c main_v2 = shapeCast S4x1x1536 (m ((c : Thread nD τ).loc main_arg2) : Vec Ideal S4x1536 .f32) shapeCasts_S4x1536_S4x1x1536 := by
    unfold_abbrev_sides
    after_results
    rfl
  exact (congrFun e _).trans (cast_s _ _ _)

/-- The column scales. -/
theorem V_c (c : Dev nD) (j : Fin 6144) :
    V m c main_v3 (ix2 (0 : Fin 1) j) = m ((c : Thread nD τ).loc main_arg4) (ix1 j) := by
  have e : V m c main_v3 = shapeCast S1x6144 (m ((c : Thread nD τ).loc main_arg4) : Vec Ideal S6144 .f32) shapeCasts_S6144_S1x6144 := by
    unfold_abbrev_sides
    after_results
    rfl
  exact (congrFun e _).trans (cast_b _ _)

/-- The bias. -/
theorem V_b (c : Dev nD) (j : Fin 6144) :
    V m c main_v4 (ix2 (0 : Fin 1) j) = m ((c : Thread nD τ).loc main_arg5) (ix1 j) := by
  have e : V m c main_v4 = shapeCast S1x6144 (m ((c : Thread nD τ).loc main_arg5) : Vec Ideal S6144 .f32) shapeCasts_S6144_S1x6144 := by
    unfold_abbrev_sides
    after_results
    rfl
  exact (congrFun e _).trans (cast_b _ _)

/-- The weight. -/
theorem V_w (c : Dev nD) : V m c main_arg3 = m ((c : Thread nD τ).loc main_arg3) := by
  unfold_abbrev_sides
  after_results

/-! ## The block a point projects -/

/-- Row `R` of the arguments, modulated. -/
abbrev argRow (c : Dev nD) (R : Fin 16384) : Fin 1536 → EReal :=
  Row.rowOf (m ((c : Thread nD τ).loc main_arg0)) (m ((c : Thread nD τ).loc main_arg1)) (m ((c : Thread nD τ).loc main_arg2)) R

/-- A modulated row depends on its entries, its gain and its shift alone. -/
theorem modulated_congr {x x' g g' t t' : Fin 1536 → EReal} (hx : ∀ k, x k = x' k) (hg : ∀ k, g k = g' k) (ht : ∀ k, t k = t' k) :
    Row.modulated x g t = Row.modulated x' g' t' := by
  rw [funext hx, funext hg, funext ht]

/-- The first block's rows are the first rows of the arguments. -/
theorem blkRow_first (c : Dev nD) (t : Fin cfg0.N) (r : Fin 512) :
    blkRow (iblk m c 0 t) (iblk m c 2 t) (iblk m c 3 t) r = argRow m c ⟨r.val, by omega⟩ := by
  have hb : (0 : Fin 4) = ⟨r.val / 4096, by omega⟩ := Fin.ext (by show 0 = r.val / 4096; omega)
  exact modulated_congr (fun k => (blk_0 m c t r k).trans (V_x m c _ k))
    (fun k => congrArg (1 + ·) ((blk_2 m c t k).trans ((V_s m c 0 k).trans
      (congrArg (fun b => m ((c : Thread nD τ).loc main_arg1) (ix2 b k)) hb))))
    (fun k => (blk_3 m c t k).trans ((V_t m c 0 k).trans (congrArg (fun b => m ((c : Thread nD τ).loc main_arg2) (ix2 b k)) hb)))

/-- The coming block's rows are the rows of the arguments from its place on. -/
theorem blkRow_next (c : Dev nD) (u : Fin cfg0.N) (r : Fin 512) :
    blkRow (iblk m c 1 u) (iblk m c 4 u) (iblk m c 5 u) r = argRow m c ⟨min (u.val + 1) 31 * 512 + r.val, by omega⟩ := by
  have hb : (⟨min (u.val + 1) 31 / 8, by omega⟩ : Fin 4) = ⟨(min (u.val + 1) 31 * 512 + r.val) / 4096, by omega⟩ :=
    Fin.ext (by show min (u.val + 1) 31 / 8 = (min (u.val + 1) 31 * 512 + r.val) / 4096; omega)
  exact modulated_congr (fun k => (blk_1 m c u r k).trans (V_x m c _ k))
    (fun k => congrArg (1 + ·) ((blk_4 m c u k).trans ((V_s m c _ k).trans
      (congrArg (fun b => m ((c : Thread nD τ).loc main_arg1) (ix2 b k)) hb))))
    (fun k => (blk_5 m c u k).trans ((V_t m c _ k).trans (congrArg (fun b => m ((c : Thread nD τ).loc main_arg2) (ix2 b k)) hb)))

/-- Row `r` of the block that point `t` projects is row `512 t + r` of the arguments. -/
def rowAt (t : Fin cfg0.N) (r : Fin 512) : Fin 16384 := ⟨t.val * 512 + r.val, by have : t.val < 32 := t.isLt; omega⟩

/-- The codes a point projects are those of its own rows. -/
theorem ownQ_apply (c : Dev nD) (t : Fin cfg0.N) (r : Fin 512) (k : Fin 1536) :
    ownQ m c t (ix3 (0 : Fin 1) r k) = Row.code (argRow m c (rowAt t r)) k := by
  have ht : t.val < 32 := t.isLt
  unfold ownQ nextQ
  split
  · rename_i h
    rw [blkCodes_apply, blkRow_first]
    refine congrArg (fun R => Row.code (argRow m c R) k) (Fin.ext ?_)
    show r.val = t.val * 512 + r.val
    omega
  · rename_i h
    rw [blkCodes_apply, blkRow_next]
    refine congrArg (fun R => Row.code (argRow m c R) k) (Fin.ext ?_)
    show min (t.val - 1 + 1) 31 * 512 + r.val = t.val * 512 + r.val
    omega

/-- The scales a point projects are those of its own rows. -/
theorem ownS_apply (c : Dev nD) (t : Fin cfg0.N) (r : Fin 512) :
    ownS m c t (ix3 (0 : Fin 1) r (0 : Fin 1)) = Row.scale (argRow m c (rowAt t r)) := by
  have ht : t.val < 32 := t.isLt
  unfold ownS nextS
  split
  · rename_i h
    rw [blkScale_apply, blkRow_first]
    refine congrArg (fun R => Row.scale (argRow m c R)) (Fin.ext ?_)
    show r.val = t.val * 512 + r.val
    omega
  · rename_i h
    rw [blkScale_apply, blkRow_next]
    refine congrArg (fun R => Row.scale (argRow m c R)) (Fin.ext ?_)
    show min (t.val - 1 + 1) 31 * 512 + r.val = t.val * 512 + r.val
    omega

/-! ## The three result arrays -/

/-- One projected entry depends on its codes, its weight column, its two scales and its bias alone. -/
theorem project_congr {q q' w w' : Fin 1536 → EReal} {s s' ws ws' b b' : EReal} (hq : ∀ k, q k = q' k) (hw : ∀ k, w k = w' k)
    (hs : s = s') (hws : ws = ws') (hb : b = b') : Row.project q w s ws b = Row.project q' w' s' ws' b' := by
  rw [funext hq, funext hw, hs, hws, hb]

/-- The codes. -/
theorem value_codes (c : Dev nD) : (dats m 0 c).arrAt 10 cfg0.N = Row.codes (m ((c : Thread nD τ).loc main_arg0)) (m ((c : Thread nD τ).loc main_arg1)) (m ((c : Thread nD τ).loc main_arg2)) := by
  refine (dats m 0 c).arrAt_eq_of_covers 10 _ (by decide +kernel) fun t _ y => ?_
  have e : ((win0_10.blk t).view.emb y) = ix2 (rowAt t (y 0)) (y 1) := by
    funext a
    match a with
    | ⟨0, _⟩ => apply Fin.ext; blk_simp [index_10]; rfl
    | ⟨1, _⟩ => apply Fin.ext; blk_simp [index_10]; rfl
  blk_simp
  rw [after0_10, e]
  exact (congrArg (outCodes (ownQ m c t)) (eq_ix2 (n0 := 512) (n1 := 1536) y)).trans ((outCodes_apply _ _ _).trans (ownQ_apply m c t _ _))

/-- The scales. -/
theorem value_scales (c : Dev nD) : (dats m 0 c).arrAt 11 cfg0.N = Row.scales (m ((c : Thread nD τ).loc main_arg0)) (m ((c : Thread nD τ).loc main_arg1)) (m ((c : Thread nD τ).loc main_arg2)) := by
  refine (dats m 0 c).arrAt_eq_of_covers 11 _ (by decide +kernel) fun t _ y => ?_
  have e : ((win0_11.blk t).view.emb y) = ix2 (rowAt t (y 0)) (y 1) := by
    funext a
    match a with
    | ⟨0, _⟩ => apply Fin.ext; blk_simp [index_11]; rfl
    | ⟨1, _⟩ => apply Fin.ext; blk_simp [index_11]
  blk_simp
  rw [after0_11, e]
  have h0 : y 1 = (0 : Fin 1) := Subsingleton.elim (α := Fin 1) _ _
  have ey : y = ix2 (n0 := 512) (n1 := 1) (y 0) (0 : Fin 1) := (eq_ix2 (n0 := 512) (n1 := 1) y).trans (congrArg (ix2 (y 0)) h0)
  exact (congrArg (outScale (ownS m c t)) ey).trans ((outScale_apply _ _).trans (ownS_apply m c t _))

/-- The projection. -/
theorem value_projected (c : Dev nD) : (dats m 0 c).arrAt 9 cfg0.N = Row.projected (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 9 _ (by decide +kernel) fun t _ y => ?_
  have e : ((win0_9.blk t).view.emb y) = ix2 (rowAt t (y 0)) (y 1) := by
    funext a
    match a with
    | ⟨0, _⟩ => apply Fin.ext; blk_simp [index_9]; rfl
    | ⟨1, _⟩ => apply Fin.ext; blk_simp [index_9]; rfl
  blk_simp
  rw [after0_9, e]
  refine (congrArg (outY (ownQ m c t) (ownS m c t) (iblk m c 6 t) (iblk m c 7 t) (iblk m c 8 t)) (eq_ix2 (n0 := 512) (n1 := 6144) y)).trans ?_
  refine (outY_apply _ _ _ _ _ _ _).trans ?_
  exact project_congr (fun k => ownQ_apply m c t _ k) (fun k => (blk_6 m c t k _).trans (congrFun (V_w m c) _)) (ownS_apply m c t _)
    ((blk_7 m c t _).trans (V_c m c _)) ((blk_8 m c t _).trans (V_b m c _))

end Cert.KernelIdeal.Body

end
-- ==== Proof.ReferenceIdeal.Rows.lean ====
/- The reference's computation read row by row over the extended reals: its modulated rows, their exponents, codes and
   scales, and its projection are the specification's. -/
module

public import proofs.«01_k».proof.Proof.Scalar
public import proofs.«01_k».proof.Proof.Gen.ReferenceIdeal.Frame
public import Idealize.ShloMosaic.Lib.Pipeline.ValueKit
public import Idealize.ShloMosaic.Lib.Pointwise

@[expose] public section

noncomputable section
namespace Cert.ReferenceIdeal.Body

open Cert.ReferenceIdeal Cert.ReferenceIdeal.Gen
open Idealize.ShloMosaic

/-- Dividing by 1536 is multiplying with one over 1536. -/
theorem div_1536 (x : EReal) : Ideal.div x (Ideal.ofBits .f32 0x44C00000#32) = x * ((1 / 1536 : ℝ) : EReal) := by
  rw [Row.const_1536, Ideal.div_coe (by norm_num)]

/-- An element of the modulated rows. -/
theorem pay5_apply (x : Vec Ideal S4x4096x1536 .bf16) (s t : Vec Ideal S4x1536 .f32) (r : Fin 16384) (k : Fin 1536) :
    k0_pay5 x s t (ix2 r k) = Row.rowOf x s t r k := by
  pointwise [k0_pay5]
  simp only [show (1153433600#32) = 0x44C00000#32 from rfl, div_1536]
  rfl

/-- A row's greatest element. -/
theorem rowMax_apply (u : FVec Ideal S16384x1536 .f32) (r : Fin 16384) :
    shapeCast S16384x1 (multiReduction .maximumf [1] S16384 u 0xFF800000#32 reduces_S16384x1536_S16384 (.inl rfl) rfl) shapeCasts_S16384_S16384x1 (ix2 r (0 : Fin 1))
     = Finset.fold max (Ideal.ofBits .f32 0xFF800000#32) (fun k => u (ix2 r k)) Finset.univ := by
  have e : ∀ w : FVec Ideal S16384 .f32, shapeCast S16384x1 w shapeCasts_S16384_S16384x1 (ix2 r (0 : Fin 1)) = w (ix1 r) := fun w => by pointwise
  rw [e]
  refine (Ideal.multiReduction_maximumf_single _ _ _ _ _ _).trans ?_
  refine congrArg (fun f => Finset.fold max (Ideal.ofBits .f32 0xFF800000#32) f Finset.univ) (funext fun k => congrArg u ?_)
  funext a
  match a with
  | ⟨0, _⟩ => rfl
  | ⟨1, _⟩ => rfl

/-- The greatest magnitude of each row over the greatest code. -/
theorem top_apply (u : FVec Ideal S16384x1536 .f32) (r : Fin 16384) :
    mulf (shapeCast S16384x1 (multiReduction .maximumf [1] S16384 (absf u) 0xFF800000#32 reduces_S16384x1536_S16384 (.inl rfl) rfl) shapeCasts_S16384_S16384x1)
      (broadcast S16384x1 (Scalar.ofBits .f32 0x3B124925#32)) (ix2 r (0 : Fin 1)) = Row.top (fun k => u (ix2 r k)) := by
  rw [mulf_apply, rowMax_apply]
  rfl

/-- A row's greatest magnitude over the greatest code. -/
theorem pay6_apply (x : Vec Ideal S4x4096x1536 .bf16) (s t : Vec Ideal S4x1536 .f32) (r : Fin 16384) :
    k0_pay6 x s t (ix2 r (0 : Fin 1)) = Row.top (Row.rowOf x s t r) := by
  unfold k0_pay6
  refine (top_apply (k0_pay5 x s t) r).trans ?_
  simp only [pay5_apply]

/-- The exponent before it is kept in range. -/
theorem pay7_apply (x : Vec Ideal S4x4096x1536 .bf16) (s t : Vec Ideal S4x1536 .f32) (i) : k0_pay7 x s t i = Ideal.liftRound Int.floor (Ideal.log (k0_pay6 x s t i) * (((Real.log 2)⁻¹ : ℝ) : EReal)) + 1 := by
  have e : ∀ v : FVec Ideal S16384x1 .f32, addf (floor (mulf (log v) (broadcast S16384x1 (Named.named κ "inv_ln2" 0x3FB8AA3B#32)))) (broadcast S16384x1 (Scalar.ofBits .f32 0x3F800000#32)) i
      = Ideal.liftRound Int.floor (Ideal.log (v i) * (((Real.log 2)⁻¹ : ℝ) : EReal)) + 1 := fun v => by rw [← Ideal.ofBits_one_f32]; rfl
  unfold k0_pay7
  exact e _

/-- The exponent kept in range. -/
theorem pay1_apply (v a d : FVec Ideal S16384x1 .f32) (c : Ideal .f32)  (i : S16384x1.Idx) : k0_pay1 v a c d i = Scalar.select (Ideal.cmp .olt (v i) (Ideal.ofBits .f32 0x00800000#32)) 0 (min c (max (d i) (a i))) := by
  rw [← Ideal.ofBits_zero_f32]; rfl

/-- The exponent of a row is the specification's. -/
theorem exponent_apply (x : Vec Ideal S4x4096x1536 .bf16) (s t : Vec Ideal S4x1536 .f32) (r : Fin 16384) : k0_pay1 (k0_pay6 x s t) (k0_pay7 x s t) (Scalar.ofBits .f32 0x42FC0000#32) k0_pay8 (ix2 r (0 : Fin 1)) = Row.exponent (Row.top (Row.rowOf x s t r)) := by
  rw [pay1_apply, pay7_apply, pay6_apply]; rfl

/-- A code from the row's element and exponent. -/
theorem pay2_read (h : FVec Ideal S16384x1536 .f32) (v a : FVec Ideal S16384x1 .f32) (c : Ideal .f32) (d : FVec Ideal S16384x1 .f32) (r : Fin 16384) (k : Fin 1536) :
    k0_pay2 h v a c d (ix2 r k) = min (Ideal.ofBits .f32 0x43E00000#32) (max (Ideal.ofBits .f32 0xC3E00000#32) (h (ix2 r k) * Ideal.exp2 (0 - k0_pay1 v a c d (ix2 r (0 : Fin 1))))) := by
  pointwise [k0_pay2]
  rfl

/-- A code of a row is the specification's. -/
theorem pay2_apply (x : Vec Ideal S4x4096x1536 .bf16) (s t : Vec Ideal S4x1536 .f32) (r : Fin 16384) (k : Fin 1536) : k0_pay2 (k0_pay5 x s t) (k0_pay6 x s t) (k0_pay7 x s t) (Scalar.ofBits .f32 0x42FC0000#32) k0_pay8 (ix2 r k) = Row.code (Row.rowOf x s t r) k := by
  unfold Row.code
  rw [pay2_read, exponent_apply, pay5_apply]

/-- A scale from the row's exponent. -/
theorem pay3_read (v a : FVec Ideal S16384x1 .f32) (c : Ideal .f32) (d : FVec Ideal S16384x1 .f32) (i : S16384x1.Idx) :
    k0_pay3 v a c d i = Ideal.exp2 (k0_pay1 v a c d i) := rfl

/-- The scale of a row is the specification's. -/
theorem pay3_apply (x : Vec Ideal S4x4096x1536 .bf16) (s t : Vec Ideal S4x1536 .f32) (r : Fin 16384) : k0_pay3 (k0_pay6 x s t) (k0_pay7 x s t) (Scalar.ofBits .f32 0x42FC0000#32) k0_pay8 (ix2 r (0 : Fin 1)) = Row.scale (Row.rowOf x s t r)  := by
  unfold Row.scale
  rw [pay3_read, exponent_apply]

/-- An element of the projection. -/
theorem pay4_apply (h : FVec Ideal S16384x1536 .f32) (v a : FVec Ideal S16384x1 .f32) (c : Ideal .f32) (d : FVec Ideal S16384x1 .f32) (w : Vec Ideal S1536x6144 .fp8e4m3) (ws b : Vec Ideal S1x6144 .f32) (r : Fin 16384) (j : Fin 6144) :
    k0_pay4 h v a c d w ws b (ix2 r j) = Row.project (fun k => k0_pay2 h v a c d (ix2 r k)) (fun k => w (ix2 k j)) (k0_pay3 v a c d (ix2 r (0 : Fin 1))) (ws (ix2 (0 : Fin 1) j)) (b (ix2 (0 : Fin 1) j)) := by
  pointwise [k0_pay4]
  rfl

end Cert.ReferenceIdeal.Body

end
-- ==== Proof.ReferenceIdeal.Value.lean ====
/- The arrays the reference leaves: the specification's codes, scales and projection of the arguments. -/
module

public import proofs.«01_k».proof.Proof.ReferenceIdeal.Rows
public import Idealize.ShloMosaic.Lib.Pipeline.ValueKit
public import Idealize.ShloMosaic.Lib.Claim

@[expose] public section

noncomputable section
namespace Cert.ReferenceIdeal.Body

open Cert.ReferenceIdeal Cert.ReferenceIdeal.Gen
open Idealize.ShloMosaic Idealize.ShloMosaic.TcCoe

variable (m : (ℓ : Loc nD τ sig) → Buf (Elt Ideal) ℓ)

/-! ## Every window is its whole array -/

/-- The block window 0 holds at a point. -/
theorem index_0 : ∀ t : Fin cfg0.N, win0_0.index t = ![0, 0, 0] := by decide +kernel
/-- The block window 1 holds at a point. -/
theorem index_1 : ∀ t : Fin cfg0.N, win0_1.index t = ![0, 0] := by decide +kernel
/-- The block window 2 holds at a point. -/
theorem index_2 : ∀ t : Fin cfg0.N, win0_2.index t = ![0, 0] := by decide +kernel
/-- The block window 3 holds at a point. -/
theorem index_3 : ∀ t : Fin cfg0.N, win0_3.index t = ![0, 0] := by decide +kernel
/-- The block window 4 holds at a point. -/
theorem index_4 : ∀ t : Fin cfg0.N, win0_4.index t = ![0, 0] := by decide +kernel
/-- The block window 5 holds at a point. -/
theorem index_5 : ∀ t : Fin cfg0.N, win0_5.index t = ![0, 0] := by decide +kernel
/-- The block window 6 holds at a point. -/
theorem index_6 : ∀ t : Fin cfg0.N, win0_6.index t = ![0, 0] := by decide +kernel
/-- The block window 7 holds at a point. -/
theorem index_7 : ∀ t : Fin cfg0.N, win0_7.index t = ![0, 0] := by decide +kernel
/-- The block window 8 holds at a point. -/
theorem index_8 : ∀ t : Fin cfg0.N, win0_8.index t = ![0, 0] := by decide +kernel

/-! ## The arrays the windows read, in the arguments -/

/-- A vector as one row. -/
theorem cast_b (X : Vec Ideal S6144 .f32) (j : Fin 6144) : shapeCast S1x6144 X shapeCasts_S6144_S1x6144 (ix2 (0 : Fin 1) j) = X (ix1 j) := by
  pointwise

/-- Window 0 reads the whole rows. -/
theorem blk_0 (c : Dev nD) (t : Fin cfg0.N) : iblk m c 0 t = m ((c : Thread nD τ).loc main_arg0) := by
  have e : V m c main_arg0 = m ((c : Thread nD τ).loc main_arg0) := by
    unfold_abbrev_sides
    after_results
  rw [← e]
  funext y
  unfold iblk
  blk_simp
  refine congrArg (V m c main_arg0) (funext fun a => ?_)
  match a with
  | ⟨0, _⟩ => apply Fin.ext; blk_simp [index_0]
  | ⟨1, _⟩ => apply Fin.ext; blk_simp [index_0]
  | ⟨2, _⟩ => apply Fin.ext; blk_simp [index_0]

/-- Window 1 reads the whole gains. -/
theorem blk_1 (c : Dev nD) (t : Fin cfg0.N) : iblk m c 1 t = m ((c : Thread nD τ).loc main_arg1) := by
  have e : V m c main_arg1 = m ((c : Thread nD τ).loc main_arg1) := by
    unfold_abbrev_sides
    after_results
  rw [← e]
  funext y
  unfold iblk
  blk_simp
  refine congrArg (V m c main_arg1) (funext fun a => ?_)
  match a with
  | ⟨0, _⟩ => apply Fin.ext; blk_simp [index_1]
  | ⟨1, _⟩ => apply Fin.ext; blk_simp [index_1]

/-- Window 2 reads the whole shifts. -/
theorem blk_2 (c : Dev nD) (t : Fin cfg0.N) : iblk m c 2 t = m ((c : Thread nD τ).loc main_arg2) := by
  have e : V m c main_arg2 = m ((c : Thread nD τ).loc main_arg2) := by
    unfold_abbrev_sides
    after_results
  rw [← e]
  funext y
  unfold iblk
  blk_simp
  refine congrArg (V m c main_arg2) (funext fun a => ?_)
  match a with
  | ⟨0, _⟩ => apply Fin.ext; blk_simp [index_2]
  | ⟨1, _⟩ => apply Fin.ext; blk_simp [index_2]

/-- Window 3 reads the whole weight. -/
theorem blk_3 (c : Dev nD) (t : Fin cfg0.N) : iblk m c 3 t = m ((c : Thread nD τ).loc main_arg3) := by
  have e : V m c main_arg3 = m ((c : Thread nD τ).loc main_arg3) := by
    unfold_abbrev_sides
    after_results
  rw [← e]
  funext y
  unfold iblk
  blk_simp
  refine congrArg (V m c main_arg3) (funext fun a => ?_)
  match a with
  | ⟨0, _⟩ => apply Fin.ext; blk_simp [index_3]
  | ⟨1, _⟩ => apply Fin.ext; blk_simp [index_3]

/-- Window 4 reads the whole column scales. -/
theorem blk_4 (c : Dev nD) (t : Fin cfg0.N) (j : Fin 6144) : iblk m c 4 t (ix2 (0 : Fin 1) j) = m ((c : Thread nD τ).loc main_arg4) (ix1 j) := by
  have e : V m c main_v0 = shapeCast S1x6144 (m ((c : Thread nD τ).loc main_arg4) : Vec Ideal S6144 .f32) shapeCasts_S6144_S1x6144 := by
    unfold_abbrev_sides
    after_results
    rfl
  refine Eq.trans ?_ ((congrFun e _).trans (cast_b _ _))
  unfold iblk
  blk_simp
  refine congrArg (V m c main_v0) (funext fun a => ?_)
  match a with
  | ⟨0, _⟩ => apply Fin.ext; blk_simp [index_4]
  | ⟨1, _⟩ => apply Fin.ext; blk_simp [index_4]

/-- Window 5 reads the whole bias. -/
theorem blk_5 (c : Dev nD) (t : Fin cfg0.N) (j : Fin 6144) : iblk m c 5 t (ix2 (0 : Fin 1) j) = m ((c : Thread nD τ).loc main_arg5) (ix1 j) := by
  have e : V m c main_v1 = shapeCast S1x6144 (m ((c : Thread nD τ).loc main_arg5) : Vec Ideal S6144 .f32) shapeCasts_S6144_S1x6144 := by
    unfold_abbrev_sides
    after_results
    rfl
  refine Eq.trans ?_ ((congrFun e _).trans (cast_b _ _))
  unfold iblk
  blk_simp
  refine congrArg (V m c main_v1) (funext fun a => ?_)
  match a with
  | ⟨0, _⟩ => apply Fin.ext; blk_simp [index_5]
  | ⟨1, _⟩ => apply Fin.ext; blk_simp [index_5]

/-! ## The body's loads are whole -/

/-- The samples are loaded whole. -/
theorem ld_x (X : Vec Ideal S4x4096x1536 .bf16) : View.ld X r0_0 = X := View.ld_unit_lit _ X (by decide)
/-- The rows per sample are loaded whole. -/
theorem ld_s (X : Vec Ideal S4x1536 .f32) : View.ld X r0_1 = X := View.ld_unit_lit _ X (by decide)

/-- The codes stored, over what the body loads. -/
theorem codes_ld (x : Vec Ideal S4x4096x1536 .bf16) (s t : Vec Ideal S4x1536 .f32) (r : Fin 16384) (k : Fin 1536) :
    k0_pay2 (k0_pay5 (View.ld x r0_0) (View.ld s r0_1) (View.ld t r0_1)) (k0_pay6 (View.ld x r0_0) (View.ld s r0_1) (View.ld t r0_1))
      (k0_pay7 (View.ld x r0_0) (View.ld s r0_1) (View.ld t r0_1)) (Scalar.ofBits .f32 0x42FC0000#32) k0_pay8 (ix2 r k)
      = Row.code (Row.rowOf x s t r) k := by
  rw [ld_x, ld_s, ld_s]
  exact pay2_apply x s t r k

/-- The scales stored, over what the body loads. -/
theorem scales_ld (x : Vec Ideal S4x4096x1536 .bf16) (s t : Vec Ideal S4x1536 .f32) (r : Fin 16384) :
    k0_pay3 (k0_pay6 (View.ld x r0_0) (View.ld s r0_1) (View.ld t r0_1))
      (k0_pay7 (View.ld x r0_0) (View.ld s r0_1) (View.ld t r0_1)) (Scalar.ofBits .f32 0x42FC0000#32) k0_pay8 (ix2 r (0 : Fin 1))
      = Row.scale (Row.rowOf x s t r) := by
  rw [ld_x, ld_s, ld_s]
  exact pay3_apply x s t r

/-- The projection stored, over what the body loads. -/
theorem projected_ld (x : Vec Ideal S4x4096x1536 .bf16) (s t : Vec Ideal S4x1536 .f32) (w : Vec Ideal S1536x6144 .fp8e4m3)
    (ws b : Vec Ideal S1x6144 .f32) (r : Fin 16384) (j : Fin 6144) :
    k0_pay4 (k0_pay5 (View.ld x r0_0) (View.ld s r0_1) (View.ld t r0_1)) (k0_pay6 (View.ld x r0_0) (View.ld s r0_1) (View.ld t r0_1))
      (k0_pay7 (View.ld x r0_0) (View.ld s r0_1) (View.ld t r0_1)) (Scalar.ofBits .f32 0x42FC0000#32) k0_pay8 w ws b (ix2 r j)
      = Row.project (Row.code (Row.rowOf x s t r)) (fun k => w (ix2 k j)) (Row.scale (Row.rowOf x s t r)) (ws (ix2 (0 : Fin 1) j))
        (b (ix2 (0 : Fin 1) j)) := by
  rw [pay4_apply, scales_ld, funext (codes_ld x s t r)]

/-! ## The three result arrays -/

/-- The codes. -/
theorem value_codes (c : Dev nD) : (dats m 0 c).arrAt 7 cfg0.N = Row.codes (m ((c : Thread nD τ).loc main_arg0)) (m ((c : Thread nD τ).loc main_arg1)) (m ((c : Thread nD τ).loc main_arg2)) := by
  refine (dats m 0 c).arrAt_eq_of_covers 7 _ (by decide +kernel) fun t _ y => ?_
  have e : (win0_7.blk t).view.emb y = y := by
    funext a
    match a with
    | ⟨0, _⟩ => apply Fin.ext; blk_simp [index_7]
    | ⟨1, _⟩ => apply Fin.ext; blk_simp [index_7]
  blk_simp
  rw [e, after0_7]
  frame_out
  unfold k0_pay12 k0_pay11 k0_pay10 k0_pay9
  simp only [View.ld_unit_lit, blk_0, blk_1, blk_2, blk_3]
  exact (congrArg _ (eq_ix2 (n0 := 16384) (n1 := 1536) y)).trans (codes_ld _ _ _ _ _)

/-- The scales. -/
theorem value_scales (c : Dev nD) : (dats m 0 c).arrAt 8 cfg0.N = Row.scales (m ((c : Thread nD τ).loc main_arg0)) (m ((c : Thread nD τ).loc main_arg1)) (m ((c : Thread nD τ).loc main_arg2)) := by
  refine (dats m 0 c).arrAt_eq_of_covers 8 _ (by decide +kernel) fun t _ y => ?_
  have e : (win0_8.blk t).view.emb y = y := by
    funext a
    match a with
    | ⟨0, _⟩ => apply Fin.ext; blk_simp [index_8]
    | ⟨1, _⟩ => apply Fin.ext; blk_simp [index_8]
  blk_simp
  rw [e, after0_8]
  frame_out
  unfold k0_pay12 k0_pay11 k0_pay10
  simp only [View.ld_unit_lit, blk_0, blk_1, blk_2, blk_3]
  have h0 : y 1 = (0 : Fin 1) := Subsingleton.elim (α := Fin 1) _ _
  have ey : y = ix2 (n0 := 16384) (n1 := 1) (y 0) (0 : Fin 1) := (eq_ix2 (n0 := 16384) (n1 := 1) y).trans (congrArg (ix2 (y 0)) h0)
  exact (congrArg _ ey).trans (scales_ld _ _ _ _)

/-- The projection. -/
theorem value_projected (c : Dev nD) : (dats m 0 c).arrAt 6 cfg0.N = Row.projected (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t _ y => ?_
  have e : (win0_6.blk t).view.emb y = y := by
    funext a
    match a with
    | ⟨0, _⟩ => apply Fin.ext; blk_simp [index_6]
    | ⟨1, _⟩ => apply Fin.ext; blk_simp [index_6]
  blk_simp
  rw [e, after0_6]
  frame_out
  unfold k0_pay12 k0_pay11 k0_pay10 k0_pay9
  simp only [View.ld_unit_lit, blk_0, blk_1, blk_2, blk_3]
  refine (congrArg _ (eq_ix2 (n0 := 16384) (n1 := 6144) y)).trans ((projected_ld _ _ _ _ _ _ _ _).trans ?_)
  exact congrArg₂ (Row.project _ _ _) (blk_4 m c t _) (blk_5 m c t _)

end Cert.ReferenceIdeal.Body

end
-- ==== Proof.lean ====
/- The proof of the stated claim: the three frames, the named constant's reading, and the equality of the kernel's
   results with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Run
public import proofs.«01_k».proof.Proof.KernelIdeal.Value
public import proofs.«01_k».proof.Proof.ReferenceIdeal.Value
public import Idealize.ShloMosaic.Lib.Claim
public import Idealize.ShloMosaic.Adequacy
public import Idealize.ShloMosaic.Init

@[expose] public section

noncomputable section

namespace Cert.Proof

open Idealize.ShloMosaic Idealize.SL.Sem

/-- The kernel runs to the end and leaves its arguments unchanged. -/
theorem frame_p : Cert.quiescent_Kernel (hKernel := Cert.Kernel.Gen.facts) := fun m ρ _ => Cert.Kernel.Body.frame m ρ
/-- So does the idealized kernel. -/
theorem frame_pi : Cert.quiescent_KernelIdeal (hKernelIdeal := Cert.KernelIdeal.Gen.facts) := fun m ρ _ => Cert.KernelIdeal.Body.frame m ρ
/-- So does the idealized reference. -/
theorem frame_ri : Cert.quiescent_ReferenceIdeal (hReferenceIdeal := Cert.ReferenceIdeal.Gen.facts) := fun m ρ _ => Cert.ReferenceIdeal.Gen.frame m ρ
/-- The constant the kernel multiplies by is a float32 reading of 1/1536. -/
theorem preserves : Cert.preserves_Kernel_KernelIdeal :=
  IdealRules.named_const.statement Cert.KernelIdeal.κ "inv_d" .f32 0x3A2AAAAB#32 ((1 / 1536 : ℝ) : EReal) rfl

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev 1)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))

include h0 h1 h2

/-- From equal arguments the reference's codes are the kernel's. -/
theorem codes_eq : (Cert.ReferenceIdeal.Gen.dats m' 0 c).arrAt 7 (Cert.ReferenceIdeal.cfgs 0).N
    = (Cert.KernelIdeal.Body.dats m 0 c).arrAt 10 (Cert.KernelIdeal.cfgs 0).N :=
  (Cert.ReferenceIdeal.Body.value_codes m' c).trans
    ((congr (congr (congrArg Cert.Row.codes h0) h1) h2).trans (Cert.KernelIdeal.Body.value_codes m c).symm)

/-- From equal arguments the reference's scales are the kernel's. -/
theorem scales_eq : (Cert.ReferenceIdeal.Gen.dats m' 0 c).arrAt 8 (Cert.ReferenceIdeal.cfgs 0).N
    = (Cert.KernelIdeal.Body.dats m 0 c).arrAt 11 (Cert.KernelIdeal.cfgs 0).N :=
  (Cert.ReferenceIdeal.Body.value_scales m' c).trans
    ((congr (congr (congrArg Cert.Row.scales h0) h1) h2).trans (Cert.KernelIdeal.Body.value_scales m c).symm)

/-- From equal arguments the reference's projection is the kernel's. -/
theorem projected_eq
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Gen.dats m' 0 c).arrAt 6 (Cert.ReferenceIdeal.cfgs 0).N
      = (Cert.KernelIdeal.Body.dats m 0 c).arrAt 9 (Cert.KernelIdeal.cfgs 0).N :=
  (Cert.ReferenceIdeal.Body.value_projected m' c).trans
    ((congr (congr (congr (congr (congr (congrArg Cert.Row.projected h0) h1) h2) h3) h4) h5).trans (Cert.KernelIdeal.Body.value_projected m c).symm)

end Results

set_option maxHeartbeats 800000 in
/-- From equal arguments the kernel and the reference end with equal results, their arguments unchanged. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Body.run_main m g
  · run_from Cert.ReferenceIdeal.Gen.run_main m' g' <;> obtain ⟨h0, h1, h2, h3, h4, h5⟩ := hagree c
    · exact projected_eq m m' c h0 h1 h2 h3 h4 h5
    · exact codes_eq m m' c h0 h1 h2
    · exact scales_eq m m' c h0 h1 h2

/-- Everything stated. -/
theorem claim : Cert.Claim := ⟨Cert.Kernel.Gen.facts, Cert.KernelIdeal.Gen.facts, Cert.ReferenceIdeal.Gen.facts,
  frame_p, frame_pi, frame_ri, preserves, algebraic⟩

end Cert.Proof

end
